-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1536, 3072]⟩ ⟨2, ![1536, 12288]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1536, 3072]⟩ ⟨2, ![1536, 12288]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![3072, 1536]⟩ ⟨2, ![12288, 1536]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x1536 : Shape := ⟨2, ![1536, 1536]⟩
abbrev S1536x3072 : Shape := ⟨2, ![1536, 3072]⟩
abbrev S3072x1536 : Shape := ⟨2, ![3072, 1536]⟩
abbrev S2x2x1536x256 : Shape := ⟨4, ![2, 2, 1536, 256]⟩
abbrev S2x512x1536 : Shape := ⟨3, ![2, 512, 1536]⟩
abbrev S2x3 : Shape := ⟨2, ![2, 3]⟩
abbrev S3x192x1536 : Shape := ⟨3, ![3, 192, 1536]⟩
abbrev S192x1536 : Shape := ⟨2, ![192, 1536]⟩
abbrev S_ : Shape := ⟨0, ![]⟩
abbrev S1x1 : Shape := ⟨2, ![1, 1]⟩
abbrev S1x1x1536x256 : Shape := ⟨4, ![1, 1, 1536, 256]⟩
abbrev S1536x256 : Shape := ⟨2, ![1536, 256]⟩
abbrev S1x256x1536 : Shape := ⟨3, ![1, 256, 1536]⟩
abbrev S256x1536 : Shape := ⟨2, ![256, 1536]⟩
abbrev S768x1536 : Shape := ⟨2, ![768, 1536]⟩
abbrev S768x256 : Shape := ⟨2, ![768, 256]⟩
abbrev S192x256 : Shape := ⟨2, ![192, 256]⟩
abbrev S1x192x1536 : Shape := ⟨3, ![1, 192, 1536]⟩
abbrev S1x512x1536 : Shape := ⟨3, ![1, 512, 1536]⟩
abbrev S512x1536 : Shape := ⟨2, ![512, 1536]⟩
abbrev S192x512 : Shape := ⟨2, ![192, 512]⟩

abbrev nBuf : Space → Nat
  | .hbm => 5
  | .vmem => 14
  | .smem => 0
  | _ => 0

abbrev bufTy : (tb : Table) → Fin (tcTables nBuf tb) → BufTy
  | .hbm, ⟨0, _⟩ => ⟨S1536x1536, .f32⟩
  | .hbm, ⟨1, _⟩ => ⟨S1536x3072, .f32⟩
  | .hbm, ⟨2, _⟩ => ⟨S1536x3072, .f32⟩
  | .hbm, ⟨3, _⟩ => ⟨S3072x1536, .f32⟩
  | .hbm, ⟨4, _⟩ => ⟨S1536x1536, .f32⟩
  | .local _ .vmem, ⟨0, _⟩ => ⟨S1536x1536, .f32⟩
  | .local _ .vmem, ⟨1, _⟩ => ⟨S1536x1536, .f32⟩
  | .local _ .vmem, ⟨2, _⟩ => ⟨S2x2x1536x256, .f32⟩
  | .local _ .vmem, ⟨3, _⟩ => ⟨S2x512x1536, .f32⟩
  | .local _ .vmem, ⟨4, _⟩ => ⟨S1536x3072, .bf16⟩
  | .local _ .vmem, ⟨5, _⟩ => ⟨S1536x1536, .bf16⟩
  | .local _ .vmem, ⟨6, _⟩ => ⟨S3x192x1536, .bf16⟩
  | .local _ .vmem, ⟨7, _⟩ => ⟨S3x192x1536, .bf16⟩
  | .local _ .vmem, ⟨8, _⟩ => ⟨S192x1536, .bf16⟩
  | .local _ .vmem, ⟨9, _⟩ => ⟨S192x1536, .bf16⟩
  | .local _ .vmem, ⟨10, _⟩ => ⟨S192x1536, .bf16⟩
  | .local _ .vmem, ⟨11, _⟩ => ⟨S3x192x1536, .bf16⟩
  | .local _ .vmem, ⟨12, _⟩ => ⟨S192x1536, .bf16⟩
  | .local _ .vmem, ⟨13, _⟩ => ⟨S3x192x1536, .bf16⟩
  | _, _ => ⟨S1536x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_112 : BitVec 32 := 4#32
  let v101 : BitVec 32 := Scalar.addi v2 c4_i32_112
  let c0_i32_113 : BitVec 32 := 0#32
  let v102 : BitVec 32 := Scalar.subi v101 c0_i32_113
  let c4_i32_114 : BitVec 32 := 4#32
  let v103 : BitVec 32 := Scalar.remsi v102 c4_i32_114
  let c192_i32 : BitVec 32 := 192#32
  let v104 : BitVec 32 := Scalar.muli v103 c192_i32
  let v109 : Index := Scalar.indexCast v104
  let c0_118 : Index := 0#32
  ![v109.toNat, 0]
def k0_off2 (d0 : Dev nD) (c0_i32_113 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_112 : BitVec 32 := 4#32
  let v101 : BitVec 32 := Scalar.addi v2 c4_i32_112
  let v102 : BitVec 32 := Scalar.subi v101 c0_i32_113
  let c4_i32_114 : BitVec 32 := 4#32
  let v103 : BitVec 32 := Scalar.remsi v102 c4_i32_114
  let c192_i32 : BitVec 32 := 192#32
  let v104 : BitVec 32 := Scalar.muli v103 c192_i32
  let v112 : Index := Scalar.indexCast v104
  let c0_120 : Index := 0#32
  ![v112.toNat, 0]
def k0_off3 (d0 : Dev nD) : Fin 2 → Nat :=
  let c768_i32 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_115 : BitVec 32 := 0#32
  let v105 : BitVec 32 := Scalar.addi v2 c0_i32_115
  let c4_i32_116 : BitVec 32 := 4#32
  let v106 : BitVec 32 := Scalar.remsi v105 c4_i32_116
  let c192_i32_117 : BitVec 32 := 192#32
  let v107 : BitVec 32 := Scalar.muli v106 c192_i32_117
  let v108 : BitVec 32 := Scalar.addi c768_i32 v107
  let v114 : Index := Scalar.indexCast v108
  let c0_121 : Index := 0#32
  ![v114.toNat, 0]
def k0_off4 (d0 : Dev nD) (c0_i32_115 : BitVec 32) : Fin 2 → Nat :=
  let c768_i32 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v105 : BitVec 32 := Scalar.addi v2 c0_i32_115
  let c4_i32_116 : BitVec 32 := 4#32
  let v106 : BitVec 32 := Scalar.remsi v105 c4_i32_116
  let c192_i32_117 : BitVec 32 := 192#32
  let v107 : BitVec 32 := Scalar.muli v106 c192_i32_117
  let v108 : BitVec 32 := Scalar.addi c768_i32 v107
  let v117 : Index := Scalar.indexCast v108
  let c0_123 : Index := 0#32
  ![v117.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_203 : BitVec 32 := 4#32
  let v186 : BitVec 32 := Scalar.addi v2 c4_i32_203
  let c0_i32_204 : BitVec 32 := 0#32
  let v187 : BitVec 32 := Scalar.subi v186 c0_i32_204
  let c4_i32_205 : BitVec 32 := 4#32
  let v188 : BitVec 32 := Scalar.remsi v187 c4_i32_205
  let c192_i32_206 : BitVec 32 := 192#32
  let v189 : BitVec 32 := Scalar.muli v188 c192_i32_206
  let v194 : Index := Scalar.indexCast v189
  let c256_211 : Index := 256#32
  ![v194.toNat, 256]
def k0_off6 (d0 : Dev nD) : Fin 2 → Nat :=
  let c768_i32_210 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_207 : BitVec 32 := 0#32
  let v190 : BitVec 32 := Scalar.addi v2 c0_i32_207
  let c4_i32_208 : BitVec 32 := 4#32
  let v191 : BitVec 32 := Scalar.remsi v190 c4_i32_208
  let c192_i32_209 : BitVec 32 := 192#32
  let v192 : BitVec 32 := Scalar.muli v191 c192_i32_209
  let v193 : BitVec 32 := Scalar.addi c768_i32_210 v192
  let v203 : Index := Scalar.indexCast v193
  let c256_215 : Index := 256#32
  ![v203.toNat, 256]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_299 : BitVec 32 := 4#32
  let v279 : BitVec 32 := Scalar.addi v2 c4_i32_299
  let c0_i32_300 : BitVec 32 := 0#32
  let v280 : BitVec 32 := Scalar.subi v279 c0_i32_300
  let c4_i32_301 : BitVec 32 := 4#32
  let v281 : BitVec 32 := Scalar.remsi v280 c4_i32_301
  let c192_i32_302 : BitVec 32 := 192#32
  let v282 : BitVec 32 := Scalar.muli v281 c192_i32_302
  let v287 : Index := Scalar.indexCast v282
  let c512_307 : Index := 512#32
  ![v287.toNat, 512]
def k0_off8 (d0 : Dev nD) : Fin 2 → Nat :=
  let c768_i32_306 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_303 : BitVec 32 := 0#32
  let v283 : BitVec 32 := Scalar.addi v2 c0_i32_303
  let c4_i32_304 : BitVec 32 := 4#32
  let v284 : BitVec 32 := Scalar.remsi v283 c4_i32_304
  let c192_i32_305 : BitVec 32 := 192#32
  let v285 : BitVec 32 := Scalar.muli v284 c192_i32_305
  let v286 : BitVec 32 := Scalar.addi c768_i32_306 v285
  let v296 : Index := Scalar.indexCast v286
  let c512_311 : Index := 512#32
  ![v296.toNat, 512]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_395 : BitVec 32 := 4#32
  let v372 : BitVec 32 := Scalar.addi v2 c4_i32_395
  let c0_i32_396 : BitVec 32 := 0#32
  let v373 : BitVec 32 := Scalar.subi v372 c0_i32_396
  let c4_i32_397 : BitVec 32 := 4#32
  let v374 : BitVec 32 := Scalar.remsi v373 c4_i32_397
  let c192_i32_398 : BitVec 32 := 192#32
  let v375 : BitVec 32 := Scalar.muli v374 c192_i32_398
  let v380 : Index := Scalar.indexCast v375
  let c768_403 : Index := 768#32
  ![v380.toNat, 768]
def k0_off10 (d0 : Dev nD) : Fin 2 → Nat :=
  let c768_i32_402 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_399 : BitVec 32 := 0#32
  let v376 : BitVec 32 := Scalar.addi v2 c0_i32_399
  let c4_i32_400 : BitVec 32 := 4#32
  let v377 : BitVec 32 := Scalar.remsi v376 c4_i32_400
  let c192_i32_401 : BitVec 32 := 192#32
  let v378 : BitVec 32 := Scalar.muli v377 c192_i32_401
  let v379 : BitVec 32 := Scalar.addi c768_i32_402 v378
  let v389 : Index := Scalar.indexCast v379
  let c768_407 : Index := 768#32
  ![v389.toNat, 768]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_490 : BitVec 32 := 4#32
  let v465 : BitVec 32 := Scalar.addi v2 c4_i32_490
  let c0_i32_491 : BitVec 32 := 0#32
  let v466 : BitVec 32 := Scalar.subi v465 c0_i32_491
  let c4_i32_492 : BitVec 32 := 4#32
  let v467 : BitVec 32 := Scalar.remsi v466 c4_i32_492
  let c192_i32_493 : BitVec 32 := 192#32
  let v468 : BitVec 32 := Scalar.muli v467 c192_i32_493
  let v473 : Index := Scalar.indexCast v468
  let c1024_498 : Index := 1024#32
  ![v473.toNat, 1024]
def k0_off12 (d0 : Dev nD) : Fin 2 → Nat :=
  let c768_i32_497 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_494 : BitVec 32 := 0#32
  let v469 : BitVec 32 := Scalar.addi v2 c0_i32_494
  let c4_i32_495 : BitVec 32 := 4#32
  let v470 : BitVec 32 := Scalar.remsi v469 c4_i32_495
  let c192_i32_496 : BitVec 32 := 192#32
  let v471 : BitVec 32 := Scalar.muli v470 c192_i32_496
  let v472 : BitVec 32 := Scalar.addi c768_i32_497 v471
  let v482 : Index := Scalar.indexCast v472
  let c1024_502 : Index := 1024#32
  ![v482.toNat, 1024]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_585 : BitVec 32 := 4#32
  let v558 : BitVec 32 := Scalar.addi v2 c4_i32_585
  let c0_i32_586 : BitVec 32 := 0#32
  let v559 : BitVec 32 := Scalar.subi v558 c0_i32_586
  let c4_i32_587 : BitVec 32 := 4#32
  let v560 : BitVec 32 := Scalar.remsi v559 c4_i32_587
  let c192_i32_588 : BitVec 32 := 192#32
  let v561 : BitVec 32 := Scalar.muli v560 c192_i32_588
  let v566 : Index := Scalar.indexCast v561
  let c1280_593 : Index := 1280#32
  ![v566.toNat, 1280]
def k0_off14 (d0 : Dev nD) : Fin 2 → Nat :=
  let c768_i32_592 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_589 : BitVec 32 := 0#32
  let v562 : BitVec 32 := Scalar.addi v2 c0_i32_589
  let c4_i32_590 : BitVec 32 := 4#32
  let v563 : BitVec 32 := Scalar.remsi v562 c4_i32_590
  let c192_i32_591 : BitVec 32 := 192#32
  let v564 : BitVec 32 := Scalar.muli v563 c192_i32_591
  let v565 : BitVec 32 := Scalar.addi c768_i32_592 v564
  let v575 : Index := Scalar.indexCast v565
  let c1280_597 : Index := 1280#32
  ![v575.toNat, 1280]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_680 : BitVec 32 := 4#32
  let v651 : BitVec 32 := Scalar.addi v2 c4_i32_680
  let c0_i32_681 : BitVec 32 := 0#32
  let v652 : BitVec 32 := Scalar.subi v651 c0_i32_681
  let c4_i32_682 : BitVec 32 := 4#32
  let v653 : BitVec 32 := Scalar.remsi v652 c4_i32_682
  let c192_i32_683 : BitVec 32 := 192#32
  let v654 : BitVec 32 := Scalar.muli v653 c192_i32_683
  let v659 : Index := Scalar.indexCast v654
  let c1536_688 : Index := 1536#32
  ![v659.toNat, 1536]
def k0_off16 (d0 : Dev nD) : Fin 2 → Nat :=
  let c768_i32_687 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_684 : BitVec 32 := 0#32
  let v655 : BitVec 32 := Scalar.addi v2 c0_i32_684
  let c4_i32_685 : BitVec 32 := 4#32
  let v656 : BitVec 32 := Scalar.remsi v655 c4_i32_685
  let c192_i32_686 : BitVec 32 := 192#32
  let v657 : BitVec 32 := Scalar.muli v656 c192_i32_686
  let v658 : BitVec 32 := Scalar.addi c768_i32_687 v657
  let v668 : Index := Scalar.indexCast v658
  let c1536_692 : Index := 1536#32
  ![v668.toNat, 1536]
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_775 : BitVec 32 := 4#32
  let v744 : BitVec 32 := Scalar.addi v2 c4_i32_775
  let c0_i32_776 : BitVec 32 := 0#32
  let v745 : BitVec 32 := Scalar.subi v744 c0_i32_776
  let c4_i32_777 : BitVec 32 := 4#32
  let v746 : BitVec 32 := Scalar.remsi v745 c4_i32_777
  let c192_i32_778 : BitVec 32 := 192#32
  let v747 : BitVec 32 := Scalar.muli v746 c192_i32_778
  let v752 : Index := Scalar.indexCast v747
  let c1792_783 : Index := 1792#32
  ![v752.toNat, 1792]
def k0_off18 (d0 : Dev nD) : Fin 2 → Nat :=
  let c768_i32_782 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_779 : BitVec 32 := 0#32
  let v748 : BitVec 32 := Scalar.addi v2 c0_i32_779
  let c4_i32_780 : BitVec 32 := 4#32
  let v749 : BitVec 32 := Scalar.remsi v748 c4_i32_780
  let c192_i32_781 : BitVec 32 := 192#32
  let v750 : BitVec 32 := Scalar.muli v749 c192_i32_781
  let v751 : BitVec 32 := Scalar.addi c768_i32_782 v750
  let v761 : Index := Scalar.indexCast v751
  let c1792_787 : Index := 1792#32
  ![v761.toNat, 1792]
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_870 : BitVec 32 := 4#32
  let v837 : BitVec 32 := Scalar.addi v2 c4_i32_870
  let c0_i32_871 : BitVec 32 := 0#32
  let v838 : BitVec 32 := Scalar.subi v837 c0_i32_871
  let c4_i32_872 : BitVec 32 := 4#32
  let v839 : BitVec 32 := Scalar.remsi v838 c4_i32_872
  let c192_i32_873 : BitVec 32 := 192#32
  let v840 : BitVec 32 := Scalar.muli v839 c192_i32_873
  let v845 : Index := Scalar.indexCast v840
  let c2048_878 : Index := 2048#32
  ![v845.toNat, 2048]
def k0_off20 (d0 : Dev nD) : Fin 2 → Nat :=
  let c768_i32_877 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_874 : BitVec 32 := 0#32
  let v841 : BitVec 32 := Scalar.addi v2 c0_i32_874
  let c4_i32_875 : BitVec 32 := 4#32
  let v842 : BitVec 32 := Scalar.remsi v841 c4_i32_875
  let c192_i32_876 : BitVec 32 := 192#32
  let v843 : BitVec 32 := Scalar.muli v842 c192_i32_876
  let v844 : BitVec 32 := Scalar.addi c768_i32_877 v843
  let v854 : Index := Scalar.indexCast v844
  let c2048_882 : Index := 2048#32
  ![v854.toNat, 2048]
def k0_off21 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_965 : BitVec 32 := 4#32
  let v930 : BitVec 32 := Scalar.addi v2 c4_i32_965
  let c0_i32_966 : BitVec 32 := 0#32
  let v931 : BitVec 32 := Scalar.subi v930 c0_i32_966
  let c4_i32_967 : BitVec 32 := 4#32
  let v932 : BitVec 32 := Scalar.remsi v931 c4_i32_967
  let c192_i32_968 : BitVec 32 := 192#32
  let v933 : BitVec 32 := Scalar.muli v932 c192_i32_968
  let v938 : Index := Scalar.indexCast v933
  let c2304_973 : Index := 2304#32
  ![v938.toNat, 2304]
def k0_off22 (d0 : Dev nD) : Fin 2 → Nat :=
  let c768_i32_972 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_969 : BitVec 32 := 0#32
  let v934 : BitVec 32 := Scalar.addi v2 c0_i32_969
  let c4_i32_970 : BitVec 32 := 4#32
  let v935 : BitVec 32 := Scalar.remsi v934 c4_i32_970
  let c192_i32_971 : BitVec 32 := 192#32
  let v936 : BitVec 32 := Scalar.muli v935 c192_i32_971
  let v937 : BitVec 32 := Scalar.addi c768_i32_972 v936
  let v947 : Index := Scalar.indexCast v937
  let c2304_977 : Index := 2304#32
  ![v947.toNat, 2304]
def k0_off23 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1060 : BitVec 32 := 4#32
  let v1023 : BitVec 32 := Scalar.addi v2 c4_i32_1060
  let c0_i32_1061 : BitVec 32 := 0#32
  let v1024 : BitVec 32 := Scalar.subi v1023 c0_i32_1061
  let c4_i32_1062 : BitVec 32 := 4#32
  let v1025 : BitVec 32 := Scalar.remsi v1024 c4_i32_1062
  let c192_i32_1063 : BitVec 32 := 192#32
  let v1026 : BitVec 32 := Scalar.muli v1025 c192_i32_1063
  let v1031 : Index := Scalar.indexCast v1026
  let c2560_1068 : Index := 2560#32
  ![v1031.toNat, 2560]
def k0_off24 (d0 : Dev nD) : Fin 2 → Nat :=
  let c768_i32_1067 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1064 : BitVec 32 := 0#32
  let v1027 : BitVec 32 := Scalar.addi v2 c0_i32_1064
  let c4_i32_1065 : BitVec 32 := 4#32
  let v1028 : BitVec 32 := Scalar.remsi v1027 c4_i32_1065
  let c192_i32_1066 : BitVec 32 := 192#32
  let v1029 : BitVec 32 := Scalar.muli v1028 c192_i32_1066
  let v1030 : BitVec 32 := Scalar.addi c768_i32_1067 v1029
  let v1040 : Index := Scalar.indexCast v1030
  let c2560_1072 : Index := 2560#32
  ![v1040.toNat, 2560]
def k0_off25 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1133 : BitVec 32 := 4#32
  let v1101 : BitVec 32 := Scalar.addi v2 c4_i32_1133
  let c0_i32_1134 : BitVec 32 := 0#32
  let v1102 : BitVec 32 := Scalar.subi v1101 c0_i32_1134
  let c4_i32_1135 : BitVec 32 := 4#32
  let v1103 : BitVec 32 := Scalar.remsi v1102 c4_i32_1135
  let c192_i32_1136 : BitVec 32 := 192#32
  let v1104 : BitVec 32 := Scalar.muli v1103 c192_i32_1136
  let v1109 : Index := Scalar.indexCast v1104
  let c2816_1141 : Index := 2816#32
  ![v1109.toNat, 2816]
def k0_off26 (d0 : Dev nD) : Fin 2 → Nat :=
  let c768_i32_1140 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_1137 : BitVec 32 := 0#32
  let v1105 : BitVec 32 := Scalar.addi v2 c0_i32_1137
  let c4_i32_1138 : BitVec 32 := 4#32
  let v1106 : BitVec 32 := Scalar.remsi v1105 c4_i32_1138
  let c192_i32_1139 : BitVec 32 := 192#32
  let v1107 : BitVec 32 := Scalar.muli v1106 c192_i32_1139
  let v1108 : BitVec 32 := Scalar.addi c768_i32_1140 v1107
  let v1118 : Index := Scalar.indexCast v1108
  let c2816_1145 : Index := 2816#32
  ![v1118.toNat, 2816]
def k0_dev3 (d0 : Dev nD) : Nat :=
  let c0_i32_1163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1162 : BitVec 32 := 1#32
  let v1138 : BitVec 32 := Scalar.muli v7 c1_i32_1162
  let v1139 : BitVec 32 := Scalar.addi c0_i32_1163 v1138
  v1139.toNat
def k0_dev4 (d0 : Dev nD) : Nat :=
  let c0_i32_1179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1178 : BitVec 32 := 1#32
  let v1157 : BitVec 32 := Scalar.muli v5 c1_i32_1178
  let v1158 : BitVec 32 := Scalar.addi c0_i32_1179 v1157
  v1158.toNat
def k0_off27 (d0 : Dev nD) (c1_i32_1207 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1206 : BitVec 32 := 4#32
  let v1183 : BitVec 32 := Scalar.addi v2 c4_i32_1206
  let v1184 : BitVec 32 := Scalar.subi v1183 c1_i32_1207
  let c4_i32_1208 : BitVec 32 := 4#32
  let v1185 : BitVec 32 := Scalar.remsi v1184 c4_i32_1208
  let c192_i32_1209 : BitVec 32 := 192#32
  let v1186 : BitVec 32 := Scalar.muli v1185 c192_i32_1209
  let v1191 : Index := Scalar.indexCast v1186
  let c0_1214 : Index := 0#32
  ![v1191.toNat, 0]
def k0_off28 (d0 : Dev nD) (c1_i32_1210 : BitVec 32) : Fin 2 → Nat :=
  let c768_i32_1213 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1187 : BitVec 32 := Scalar.addi v2 c1_i32_1210
  let c4_i32_1211 : BitVec 32 := 4#32
  let v1188 : BitVec 32 := Scalar.remsi v1187 c4_i32_1211
  let c192_i32_1212 : BitVec 32 := 192#32
  let v1189 : BitVec 32 := Scalar.muli v1188 c192_i32_1212
  let v1190 : BitVec 32 := Scalar.addi c768_i32_1213 v1189
  let v1196 : Index := Scalar.indexCast v1190
  let c0_1217 : Index := 0#32
  ![v1196.toNat, 0]
def k0_off29 (d0 : Dev nD) (c1_i32_1238 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1237 : BitVec 32 := 4#32
  let v1214 : BitVec 32 := Scalar.addi v2 c4_i32_1237
  let v1215 : BitVec 32 := Scalar.subi v1214 c1_i32_1238
  let c4_i32_1239 : BitVec 32 := 4#32
  let v1216 : BitVec 32 := Scalar.remsi v1215 c4_i32_1239
  let c192_i32_1240 : BitVec 32 := 192#32
  let v1217 : BitVec 32 := Scalar.muli v1216 c192_i32_1240
  let v1222 : Index := Scalar.indexCast v1217
  let c512_1245 : Index := 512#32
  ![v1222.toNat, 512]
def k0_off30 (d0 : Dev nD) (c1_i32_1241 : BitVec 32) : Fin 2 → Nat :=
  let c768_i32_1244 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1218 : BitVec 32 := Scalar.addi v2 c1_i32_1241
  let c4_i32_1242 : BitVec 32 := 4#32
  let v1219 : BitVec 32 := Scalar.remsi v1218 c4_i32_1242
  let c192_i32_1243 : BitVec 32 := 192#32
  let v1220 : BitVec 32 := Scalar.muli v1219 c192_i32_1243
  let v1221 : BitVec 32 := Scalar.addi c768_i32_1244 v1220
  let v1231 : Index := Scalar.indexCast v1221
  let c512_1249 : Index := 512#32
  ![v1231.toNat, 512]
def k0_off31 (d0 : Dev nD) (c1_i32_1271 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1270 : BitVec 32 := 4#32
  let v1253 : BitVec 32 := Scalar.addi v2 c4_i32_1270
  let v1254 : BitVec 32 := Scalar.subi v1253 c1_i32_1271
  let c4_i32_1272 : BitVec 32 := 4#32
  let v1255 : BitVec 32 := Scalar.remsi v1254 c4_i32_1272
  let c192_i32_1273 : BitVec 32 := 192#32
  let v1256 : BitVec 32 := Scalar.muli v1255 c192_i32_1273
  let v1261 : Index := Scalar.indexCast v1256
  let c1024_1278 : Index := 1024#32
  ![v1261.toNat, 1024]
def k0_off32 (d0 : Dev nD) (c1_i32_1274 : BitVec 32) : Fin 2 → Nat :=
  let c768_i32_1277 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1257 : BitVec 32 := Scalar.addi v2 c1_i32_1274
  let c4_i32_1275 : BitVec 32 := 4#32
  let v1258 : BitVec 32 := Scalar.remsi v1257 c4_i32_1275
  let c192_i32_1276 : BitVec 32 := 192#32
  let v1259 : BitVec 32 := Scalar.muli v1258 c192_i32_1276
  let v1260 : BitVec 32 := Scalar.addi c768_i32_1277 v1259
  let v1270 : Index := Scalar.indexCast v1260
  let c1024_1282 : Index := 1024#32
  ![v1270.toNat, 1024]
def k0_off33 (d0 : Dev nD) (c1_i32_1304 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1303 : BitVec 32 := 4#32
  let v1292 : BitVec 32 := Scalar.addi v2 c4_i32_1303
  let v1293 : BitVec 32 := Scalar.subi v1292 c1_i32_1304
  let c4_i32_1305 : BitVec 32 := 4#32
  let v1294 : BitVec 32 := Scalar.remsi v1293 c4_i32_1305
  let c192_i32_1306 : BitVec 32 := 192#32
  let v1295 : BitVec 32 := Scalar.muli v1294 c192_i32_1306
  let v1300 : Index := Scalar.indexCast v1295
  let c1536_1311 : Index := 1536#32
  ![v1300.toNat, 1536]
def k0_off34 (d0 : Dev nD) (c1_i32_1307 : BitVec 32) : Fin 2 → Nat :=
  let c768_i32_1310 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1296 : BitVec 32 := Scalar.addi v2 c1_i32_1307
  let c4_i32_1308 : BitVec 32 := 4#32
  let v1297 : BitVec 32 := Scalar.remsi v1296 c4_i32_1308
  let c192_i32_1309 : BitVec 32 := 192#32
  let v1298 : BitVec 32 := Scalar.muli v1297 c192_i32_1309
  let v1299 : BitVec 32 := Scalar.addi c768_i32_1310 v1298
  let v1309 : Index := Scalar.indexCast v1299
  let c1536_1315 : Index := 1536#32
  ![v1309.toNat, 1536]
def k0_off35 (d0 : Dev nD) (c1_i32_1337 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1336 : BitVec 32 := 4#32
  let v1331 : BitVec 32 := Scalar.addi v2 c4_i32_1336
  let v1332 : BitVec 32 := Scalar.subi v1331 c1_i32_1337
  let c4_i32_1338 : BitVec 32 := 4#32
  let v1333 : BitVec 32 := Scalar.remsi v1332 c4_i32_1338
  let c192_i32_1339 : BitVec 32 := 192#32
  let v1334 : BitVec 32 := Scalar.muli v1333 c192_i32_1339
  let v1339 : Index := Scalar.indexCast v1334
  let c2048_1344 : Index := 2048#32
  ![v1339.toNat, 2048]
def k0_off36 (d0 : Dev nD) (c1_i32_1340 : BitVec 32) : Fin 2 → Nat :=
  let c768_i32_1343 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1335 : BitVec 32 := Scalar.addi v2 c1_i32_1340
  let c4_i32_1341 : BitVec 32 := 4#32
  let v1336 : BitVec 32 := Scalar.remsi v1335 c4_i32_1341
  let c192_i32_1342 : BitVec 32 := 192#32
  let v1337 : BitVec 32 := Scalar.muli v1336 c192_i32_1342
  let v1338 : BitVec 32 := Scalar.addi c768_i32_1343 v1337
  let v1348 : Index := Scalar.indexCast v1338
  let c2048_1348 : Index := 2048#32
  ![v1348.toNat, 2048]
def k0_off37 (d0 : Dev nD) (c1_i32_1370 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1369 : BitVec 32 := 4#32
  let v1370 : BitVec 32 := Scalar.addi v2 c4_i32_1369
  let v1371 : BitVec 32 := Scalar.subi v1370 c1_i32_1370
  let c4_i32_1371 : BitVec 32 := 4#32
  let v1372 : BitVec 32 := Scalar.remsi v1371 c4_i32_1371
  let c192_i32_1372 : BitVec 32 := 192#32
  let v1373 : BitVec 32 := Scalar.muli v1372 c192_i32_1372
  let v1378 : Index := Scalar.indexCast v1373
  let c2560_1377 : Index := 2560#32
  ![v1378.toNat, 2560]
def k0_off38 (d0 : Dev nD) (c1_i32_1373 : BitVec 32) : Fin 2 → Nat :=
  let c768_i32_1376 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1374 : BitVec 32 := Scalar.addi v2 c1_i32_1373
  let c4_i32_1374 : BitVec 32 := 4#32
  let v1375 : BitVec 32 := Scalar.remsi v1374 c4_i32_1374
  let c192_i32_1375 : BitVec 32 := 192#32
  let v1376 : BitVec 32 := Scalar.muli v1375 c192_i32_1375
  let v1377 : BitVec 32 := Scalar.addi c768_i32_1376 v1376
  let v1387 : Index := Scalar.indexCast v1377
  let c2560_1381 : Index := 2560#32
  ![v1387.toNat, 2560]
def k0_dev5 (d0 : Dev nD) : Nat :=
  let c0_i32_1450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1449 : BitVec 32 := 1#32
  let v1453 : BitVec 32 := Scalar.muli v7 c1_i32_1449
  let v1454 : BitVec 32 := Scalar.addi c0_i32_1450 v1453
  v1454.toNat
def k0_dev6 (d0 : Dev nD) : Nat :=
  let c0_i32_1466 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1465 : BitVec 32 := 1#32
  let v1472 : BitVec 32 := Scalar.muli v5 c1_i32_1465
  let v1473 : BitVec 32 := Scalar.addi c0_i32_1466 v1472
  v1473.toNat
def k0_dev7 (d0 : Dev nD) : Nat :=
  let c0_i32_1730 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1729 : BitVec 32 := 1#32
  let v1763 : BitVec 32 := Scalar.muli v7 c1_i32_1729
  let v1764 : BitVec 32 := Scalar.addi c0_i32_1730 v1763
  v1764.toNat
def k0_dev8 (d0 : Dev nD) : Nat :=
  let c0_i32_1746 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1745 : BitVec 32 := 1#32
  let v1782 : BitVec 32 := Scalar.muli v5 c1_i32_1745
  let v1783 : BitVec 32 := Scalar.addi c0_i32_1746 v1782
  v1783.toNat
def k0_off39 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1988 : BitVec 32 := 1#32
  let v2057 : BitVec 32 := Scalar.addi v2 c1_i32_1988
  let c4_i32_1989 : BitVec 32 := 4#32
  let v2058 : BitVec 32 := Scalar.remsi v2057 c4_i32_1989
  let c192_i32_1990 : BitVec 32 := 192#32
  let v2059 : BitVec 32 := Scalar.muli v2058 c192_i32_1990
  let v2060 : Index := Scalar.indexCast v2059
  let c0_1991 : Index := 0#32
  ![v2060.toNat, 0]
def k0_off40 (d0 : Dev nD) : Fin 2 → Nat :=
  let c768_i32_1998 : BitVec 32 := 768#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_1994 : BitVec 32 := 4#32
  let v2067 : BitVec 32 := Scalar.addi v2 c4_i32_1994
  let c1_i32_1995 : BitVec 32 := 1#32
  let v2068 : BitVec 32 := Scalar.subi v2067 c1_i32_1995
  let c4_i32_1996 : BitVec 32 := 4#32
  let v2069 : BitVec 32 := Scalar.remsi v2068 c4_i32_1996
  let c192_i32_1997 : BitVec 32 := 192#32
  let v2070 : BitVec 32 := Scalar.muli v2069 c192_i32_1997
  let v2071 : BitVec 32 := Scalar.addi c768_i32_1998 v2070
  let v2072 : Index := Scalar.indexCast v2071
  let c0_1999 : Index := 0#32
  ![v2072.toNat, 0]
def k0_dev9 (d0 : Dev nD) : Nat :=
  let c0_i32_2008 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2007 : BitVec 32 := 1#32
  let v2079 : BitVec 32 := Scalar.muli v7 c1_i32_2007
  let v2080 : BitVec 32 := Scalar.addi c0_i32_2008 v2079
  v2080.toNat
def k0_dev10 (d0 : Dev nD) : Nat :=
  let c0_i32_2017 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2016 : BitVec 32 := 1#32
  let v2087 : BitVec 32 := Scalar.muli v5 c1_i32_2016
  let v2088 : BitVec 32 := Scalar.addi c0_i32_2017 v2087
  v2088.toNat
def k0_dev11 (d0 : Dev nD) : Nat :=
  let c0_i32_2045 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2044 : BitVec 32 := 1#32
  let v2107 : BitVec 32 := Scalar.muli v7 c1_i32_2044
  let v2108 : BitVec 32 := Scalar.addi c0_i32_2045 v2107
  v2108.toNat
def k0_dev12 (d0 : Dev nD) : Nat :=
  let c0_i32_2057 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2056 : BitVec 32 := 1#32
  let v2117 : BitVec 32 := Scalar.muli v5 c1_i32_2056
  let v2118 : BitVec 32 := Scalar.addi c0_i32_2057 v2117
  v2118.toNat
def k0_dev13 (d0 : Dev nD) : Nat :=
  let c0_i32_2109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_2108 : BitVec 32 := 1#32
  let v2161 : BitVec 32 := Scalar.muli v7 c1_i32_2108
  let v2162 : BitVec 32 := Scalar.addi c0_i32_2109 v2161
  v2162.toNat
def k0_dev14 (d0 : Dev nD) : Nat :=
  let c0_i32_2121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_2120 : BitVec 32 := 1#32
  let v2171 : BitVec 32 := Scalar.muli v5 c1_i32_2120
  let v2172 : BitVec 32 := Scalar.addi c0_i32_2121 v2171
  v2172.toNat
abbrev stage0_0 : Fin 1 → Memref sig .tc .vmem S1536x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1536x1536 : Shape := ⟨2, ![1536, 1536]⟩
abbrev S1536x12288 : Shape := ⟨2, ![1536, 12288]⟩
abbrev S12288x1536 : Shape := ⟨2, ![12288, 1536]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1536x1536, .f32⟩
  | .hbm, ⟨1, _⟩ => ⟨S1536x12288, .f32⟩
  | .hbm, ⟨2, _⟩ => ⟨S1536x12288, .f32⟩
  | .hbm, ⟨3, _⟩ => ⟨S12288x1536, .f32⟩
  | .hbm, ⟨4, _⟩ => ⟨S1536x12288, .f32⟩
  | .hbm, ⟨5, _⟩ => ⟨S1536x12288, .f32⟩
  | .hbm, ⟨6, _⟩ => ⟨S1536x12288, .f32⟩
  | .hbm, ⟨7, _⟩ => ⟨S1536x12288, .f32⟩
  | .hbm, ⟨8, _⟩ => ⟨S_, .f32⟩
  | .hbm, ⟨9, _⟩ => ⟨S1536x12288, .f32⟩
  | .hbm, ⟨10, _⟩ => ⟨S1536x12288, .f32⟩
  | .hbm, ⟨11, _⟩ => ⟨S1536x12288, .f32⟩
  | .hbm, ⟨12, _⟩ => ⟨S1536x12288, .f32⟩
  | .hbm, ⟨13, _⟩ => ⟨S1536x1536, .f32⟩
  | _, _ => ⟨S1536x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Kernel.Body.lean ====
/-
The generated body is the structured program: operation by operation.
-/
module

public import proofs.«01_k».proof.Proof.Kernel.Prog

@[expose] public section

set_option maxRecDepth 65536

noncomputable section

namespace Cert.Kernel.Ring

open Idealize.ShloMosaic Idealize.SL.Sem Cert.Kernel Cert.Kernel.Gen

variable {F : FTy → Type} [FloatOps F]

/-- Programs that start with one operation and go on alike are equal. -/
theorem op_congr {E : Type → Type} {α β : Type} (e : E β) {k k' : β → Prog E α} (h : ∀ x, k x = k' x) :
    Prog.op e k = Prog.op e k' := congrArg (Prog.op e) (funext h)

set_option maxHeartbeats 4000000 in
theorem body_eq : (bodyAt0 (F := F) ⟨0, by decide⟩) = prog (F := F) := by
  repeat refine op_congr _ (fun x => ?_)
  rfl

end Cert.Kernel.Ring
end
-- ==== Proof.KernelIdeal.Prog.lean ====
/-
The kernel body as a structured program: the same operations, with the unrolled loops written as
loops over their counters, the two directions of the ring as one text at a direction, and the
windows of the buffers as functions of their counters.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Ring

open Idealize.ShloMosaic Idealize.SL.Sem Cert.KernelIdeal Cert.KernelIdeal.Gen

variable {F : FTy → Type} [FloatOps F]

/-- Programs of the kernel body. -/
abbrev Body (F : FTy → Type) := Prog (TpuEff nD τ sig (Elt F) Λ₀ .tc) PUnit

/-! ## The buffers -/

abbrev xM : Memref sig .tc .vmem S1536x1536 .f32 := Memref.whole cc0_stg0_0
abbrev oM : Memref sig .tc .vmem S1536x1536 .f32 := Memref.whole cc0_stg1_0
abbrev gM : Memref sig .tc .hbm S1536x3072 .f32 := Memref.whole main_arg1
abbrev uM : Memref sig .tc .hbm S1536x3072 .f32 := Memref.whole main_arg2
abbrev dM : Memref sig .tc .hbm S3072x1536 .f32 := Memref.whole main_arg3
abbrev wM : Memref sig .tc .vmem S2x2x1536x256 .f32 := Memref.whole cc0_scratch0
abbrev wdM : Memref sig .tc .vmem S2x512x1536 .f32 := Memref.whole cc0_scratch1
abbrev hM : Memref sig .tc .vmem S1536x3072 .bf16 := Memref.whole cc0_scratch3
abbrev xbM : Memref sig .tc .vmem S1536x1536 .bf16 := Memref.whole cc0_scratch4

/-- The landing buffer of the reduce-scatter, by direction. -/
def commM : Fin 2 → Memref sig .tc .vmem S3x192x1536 .bf16
  | 0 => Memref.whole cc0_scratch5 | 1 => Memref.whole cc0_scratch6
/-- The sending buffer of the reduce-scatter, by direction. -/
def sbM : Fin 2 → Memref sig .tc .vmem S192x1536 .bf16
  | 0 => Memref.whole cc0_scratch7 | 1 => Memref.whole cc0_scratch8
/-- The sending buffer of the all-gather's first hop, by direction. -/
def ag0M : Fin 2 → Memref sig .tc .vmem S192x1536 .bf16
  | 0 => Memref.whole cc0_scratch9 | 1 => Memref.whole cc0_scratch11
/-- The landing buffer of the all-gather, by direction. -/
def agM : Fin 2 → Memref sig .tc .vmem S3x192x1536 .bf16
  | 0 => Memref.whole cc0_scratch10 | 1 => Memref.whole cc0_scratch12

theorem commM_isWhole : ∀ g, (commM g).IsWhole | 0 => Memref.isWhole_whole _ | 1 => Memref.isWhole_whole _
theorem sbM_isWhole : ∀ g, (sbM g).IsWhole | 0 => Memref.isWhole_whole _ | 1 => Memref.isWhole_whole _
theorem ag0M_isWhole : ∀ g, (ag0M g).IsWhole | 0 => Memref.isWhole_whole _ | 1 => Memref.isWhole_whole _
theorem agM_isWhole : ∀ g, (agM g).IsWhole | 0 => Memref.isWhole_whole _ | 1 => Memref.isWhole_whole _

/-! ## Windows and semaphores -/

theorem inbW (s i : Fin 2) : ∀ a, (![s.val, i.val, 0, 0] : Fin 4 → Nat) a + S1x1x1536x256.size a ≤ S2x2x1536x256.size a := by
  revert s i; decide
theorem inbWd (s : Fin 2) : ∀ a, (![s.val, 0, 0] : Fin 3 → Nat) a + S1x256x1536.size a ≤ S2x512x1536.size a := by
  revert s; decide
theorem inbWd5 (s : Fin 2) : ∀ a, (![s.val, 0, 0] : Fin 3 → Nat) a + S1x512x1536.size a ≤ S2x512x1536.size a := by
  revert s; decide
theorem inbG (t : Fin 12) : ∀ a, (![0, 256 * t.val] : Fin 2 → Nat) a + S1536x256.size a ≤ S1536x3072.size a := by
  revert t; decide
theorem inbD (t : Fin 12) : ∀ a, (![256 * t.val, 0] : Fin 2 → Nat) a + S256x1536.size a ≤ S3072x1536.size a := by
  revert t; decide
theorem inbD5 (t : Fin 6) : ∀ a, (![512 * t.val, 0] : Fin 2 → Nat) a + S512x1536.size a ≤ S3072x1536.size a := by
  revert t; decide
theorem inbSem (g : Fin 2) (j : Fin 3) : ∀ a, (![g.val, j.val] : Fin 2 → Nat) a + S1x1.size a ≤ S2x3.size a := by
  revert g j; decide
theorem inbC (j : Fin 3) : ∀ a, (![j.val, 0, 0] : Fin 3 → Nat) a + S1x192x1536.size a ≤ S3x192x1536.size a := by
  revert j; decide
theorem wordsC (j : Fin 3) : (Rect.unit (s := S3x192x1536) ![j.val, 0, 0] S1x192x1536.size (inbC j)).WholeWords (EltTy.packing .bf16) := by
  revert j; decide
theorem inbXb (r : Fin 2) : ∀ a, (![768 * r.val, 0] : Fin 2 → Nat) a + S768x1536.size a ≤ S1536x1536.size a := by
  revert r; decide
theorem inbH (r : Fin 2) (t : Fin 12) : ∀ a, (![768 * r.val, 256 * t.val] : Fin 2 → Nat) a + S768x256.size a ≤ S1536x3072.size a := by
  revert r t; decide
theorem packedH (r : Fin 2) (t : Fin 12) : (Rect.unit (s := S1536x3072) ![768 * r.val, 256 * t.val] S768x256.size (inbH r t)).PackedRows (EltTy.packing .bf16) := by
  revert r t; decide

/-- Slot `s`, weight `i` of the gate and up buffer. -/
abbrev wWin (s i : Fin 2) : Memref sig .tc .vmem S1536x256 .f32 :=
  (wM.slice (Rect.unit (s := S2x2x1536x256) ![s.val, i.val, 0, 0] S1x1x1536x256.size (inbW s i)) (fun _ => rfl)).squeeze S1536x256 squeezes_S1x1x1536x256_S1536x256
/-- The 256 rows of slot `s` of the down buffer. -/
abbrev wdWin (s : Fin 2) : Memref sig .tc .vmem S256x1536 .f32 :=
  (wdM.slice (Rect.unit (s := S2x512x1536) ![s.val, 0, 0] S1x256x1536.size (inbWd s)) (fun _ => rfl)).squeeze S256x1536 squeezes_S1x256x1536_S256x1536
/-- Slot `s` of the down buffer. -/
abbrev wdWin5 (s : Fin 2) : Memref sig .tc .vmem S512x1536 .f32 :=
  (wdM.slice (Rect.unit (s := S2x512x1536) ![s.val, 0, 0] S1x512x1536.size (inbWd5 s)) (fun _ => rfl)).squeeze S512x1536 squeezes_S1x512x1536_S512x1536
/-- Columns of a gate or up argument. -/
abbrev guWin (m : Memref sig .tc .hbm S1536x3072 .f32) (t : Fin 12) : Memref sig .tc .hbm S1536x256 .f32 :=
  m.slice (Rect.unit (s := S1536x3072) ![0, 256 * t.val] S1536x256.size (inbG t)) (fun _ => rfl)
/-- 256 rows of the down argument. -/
abbrev dWin (t : Fin 12) : Memref sig .tc .hbm S256x1536 .f32 :=
  dM.slice (Rect.unit (s := S3072x1536) ![256 * t.val, 0] S256x1536.size (inbD t)) (fun _ => rfl)
/-- 512 rows of the down argument. -/
abbrev dWin5 (t : Fin 6) : Memref sig .tc .hbm S512x1536 .f32 :=
  dM.slice (Rect.unit (s := S3072x1536) ![512 * t.val, 0] S512x1536.size (inbD5 t)) (fun _ => rfl)
/-- One block of a landing buffer. -/
abbrev slotWin (m : Memref sig .tc .vmem S3x192x1536 .bf16) (j : Fin 3) : Memref sig .tc .vmem S192x1536 .bf16 :=
  (m.slice (Rect.unit (s := S3x192x1536) ![j.val, 0, 0] S1x192x1536.size (inbC j)) (fun _ => rfl)).squeeze S192x1536 squeezes_S1x192x1536_S192x1536
/-- What hop `s` of the all-gather sends. -/
def agSrc (g : Fin 2) : Fin 3 → Memref sig .tc .vmem S192x1536 .bf16
  | 0 => ag0M g | 1 => slotWin (agM g) 0 | 2 => slotWin (agM g) 1

theorem slotWin_wordExact {m : Memref sig .tc .vmem S3x192x1536 .bf16} (h : m.IsWhole) (j : Fin 3) :
    (slotWin m j).view.WordExact :=
  (h.wordExact_slice rfl _ (wordsC j)).reshape _ _
theorem agSrc_wordExact (g : Fin 2) : ∀ s, (agSrc g s).view.WordExact
  | 0 => (ag0M_isWhole g).wordExact
  | 1 => slotWin_wordExact (agM_isWhole g) 0 | 2 => slotWin_wordExact (agM_isWhole g) 1

/-- One semaphore of a two by three array. -/
abbrev semAt (A : DmaSems sig S2x3) (g : Fin 2) (j : Fin 3) : DmaSem sig :=
  ((A.slice (Rect.unit (s := S2x3) ![g.val, j.val] S1x1.size (inbSem g j))).squeeze S_ squeezes_S1x1_S_).sem
abbrev lSem (s : Fin 2) (i : Fin 3) : DmaSem sig := semAt cc0_scratch2 s i
abbrev rsS (g : Fin 2) (j : Fin 3) : DmaSem sig := semAt cc0_scratch13 g j
abbrev rsR (g : Fin 2) (j : Fin 3) : DmaSem sig := semAt cc0_scratch14 g j
abbrev agS (g : Fin 2) (j : Fin 3) : DmaSem sig := semAt cc0_scratch15 g j
abbrev agR (g : Fin 2) (j : Fin 3) : DmaSem sig := semAt cc0_scratch16 g j
abbrev barS : Sem sig := (SemArray.scalar (sig.barrier 0 rfl) : Sems sig S_).sem

/-- The device a direction sends to. -/
def peer (d : Dev nD) : Fin 2 → Dev nD
  | 0 => ⟨k0_dev3 d, k0_dev3_lt d⟩ | 1 => ⟨k0_dev4 d, k0_dev4_lt d⟩

/-! ## Offsets -/

/-- Rows of the accumulator that direction `g` works on at step `j`. -/
def oOff (d : Dev nD) (g : Fin 2) (j : Fin 4) : Fin 2 → Nat :=
  match g with | 0 => k0_off2 d (BitVec.ofNat 32 j.val) | 1 => k0_off4 d (BitVec.ofNat 32 j.val)
/-- Rows that device `d` ends up owning. -/
def ownOff (d : Dev nD) (g : Fin 2) : Fin 2 → Nat :=
  match g with | 0 => k0_off39 d | 1 => k0_off40 d
/-- The hidden tile of the first phase. -/
def hOff0 (d : Dev nD) (g : Fin 2) (t : Fin 12) : Fin 2 → Nat :=
  match g with
  | 0 => (![k0_off1, k0_off5, k0_off7, k0_off9, k0_off11, k0_off13, k0_off15, k0_off17, k0_off19, k0_off21, k0_off23, k0_off25] : Fin 12 → Dev nD → Fin 2 → Nat) t d
  | 1 => (![k0_off3, k0_off6, k0_off8, k0_off10, k0_off12, k0_off14, k0_off16, k0_off18, k0_off20, k0_off22, k0_off24, k0_off26] : Fin 12 → Dev nD → Fin 2 → Nat) t d
/-- The hidden tile of the second phase, pass `m`. -/
def hOff1 (d : Dev nD) (g : Fin 2) (m : Fin 3) (t : Fin 6) : Fin 2 → Nat :=
  match g with
  | 0 => (![k0_off27, k0_off29, k0_off31, k0_off33, k0_off35, k0_off37] : Fin 6 → Dev nD → BitVec 32 → Fin 2 → Nat) t d (BitVec.ofNat 32 (1 + m.val))
  | 1 => (![k0_off28, k0_off30, k0_off32, k0_off34, k0_off36, k0_off38] : Fin 6 → Dev nD → BitVec 32 → Fin 2 → Nat) t d (BitVec.ofNat 32 (1 + m.val))

/-- The row block of direction `g` at step `j`, of the eight row blocks. -/
def blk (d : Dev nD) (g : Fin 2) (j : Fin 4) : Fin 8 :=
  match g with
  | 0 => ⟨(d.val + 4 - j.val) % 4, by omega⟩
  | 1 => ⟨4 + (d.val + j.val) % 4, by omega⟩

theorem oOff_eq : ∀ d g j, oOff d g j = ![192 * (blk d g j).val, 0] := by decide +kernel
theorem ownOff_eq : ∀ d g, ownOff d g = ![192 * (blk d g 3).val, 0] := by decide +kernel
theorem hOff0_eq : ∀ d g t, hOff0 d g t = ![192 * (blk d g 0).val, 256 * t.val] := by decide +kernel
theorem hOff1_eq : ∀ d g m t, hOff1 d g m t = ![192 * (blk d g m.succ).val, 512 * t.val] := by decide +kernel

theorem oOff_inb (d : Dev nD) (g : Fin 2) (j : Fin 4) : ∀ a, oOff d g j a + S192x1536.size a ≤ S1536x1536.size a := by
  rw [oOff_eq]; generalize blk d g j = b; revert b; decide
theorem ownOff_inb (d : Dev nD) (g : Fin 2) : ∀ a, ownOff d g a + S192x1536.size a ≤ S1536x1536.size a := by
  rw [ownOff_eq]; generalize blk d g 3 = b; revert b; decide
theorem hOff0_inb (d : Dev nD) (g : Fin 2) (t : Fin 12) : ∀ a, hOff0 d g t a + S192x256.size a ≤ S1536x3072.size a := by
  rw [hOff0_eq]; generalize blk d g 0 = b; revert b t; decide
theorem hOff1_inb (d : Dev nD) (g : Fin 2) (m : Fin 3) (t : Fin 6) : ∀ a, hOff1 d g m t a + S192x512.size a ≤ S1536x3072.size a := by
  rw [hOff1_eq]; generalize blk d g m.succ = b; revert b t; decide

/-! ## Operations -/

section Ops

variable {α : Type}

/-- Rows of the accumulator. -/
abbrev ldO (d : Dev nD) (g : Fin 2) (j : Fin 4) : Prog (TpuEff nD τ sig (Elt F) Λ₀ .tc) (Vec F S192x1536 .f32) :=
  Prog.lift (.load oM (Rect.unit (s := S1536x1536) (oOff d g j) S192x1536.size (oOff_inb d g j)).toLoadRect (View.loadsAt_vmem h_S192x1536))
abbrev ldOwn (d : Dev nD) (g : Fin 2) : Prog (TpuEff nD τ sig (Elt F) Λ₀ .tc) (Vec F S192x1536 .f32) :=
  Prog.lift (.load oM (Rect.unit (s := S1536x1536) (ownOff d g) S192x1536.size (ownOff_inb d g)).toLoadRect (View.loadsAt_vmem h_S192x1536))
abbrev stO (d : Dev nD) (g : Fin 2) (j : Fin 4) (w : Vec F S192x1536 .f32) : Body F :=
  Prog.lift (.store oM (Rect.unit (s := S1536x1536) (oOff d g j) S192x1536.size (oOff_inb d g j)) w Finset.univ (View.stores_vmem_bits_univ h_S192x1536 rfl) (.inl rfl))
abbrev ldH (d : Dev nD) (g : Fin 2) (t : Fin 12) : Prog (TpuEff nD τ sig (Elt F) Λ₀ .tc) (Vec F S192x256 .bf16) :=
  Prog.lift (.load hM (Rect.unit (s := S1536x3072) (hOff0 d g t) S192x256.size (hOff0_inb d g t)).toLoadRect (View.loadsAt_vmem h_S192x256))
abbrev ldH5 (d : Dev nD) (g : Fin 2) (m : Fin 3) (t : Fin 6) : Prog (TpuEff nD τ sig (Elt F) Λ₀ .tc) (Vec F S192x512 .bf16) :=
  Prog.lift (.load hM (Rect.unit (s := S1536x3072) (hOff1 d g m t) S192x512.size (hOff1_inb d g m t)).toLoadRect (View.loadsAt_vmem h_S192x512))
abbrev ldHt (r : Fin 2) (t : Fin 12) : Prog (TpuEff nD τ sig (Elt F) Λ₀ .tc) (Vec F S768x256 .bf16) :=
  Prog.lift (.load hM (Rect.unit (s := S1536x3072) ![768 * r.val, 256 * t.val] S768x256.size (inbH r t)).toLoadRect (View.loadsAt_vmem h_S768x256))
abbrev stHt (r : Fin 2) (t : Fin 12) (w : Vec F S768x256 .bf16) : Body F :=
  Prog.lift (.store hM (Rect.unit (s := S1536x3072) ![768 * r.val, 256 * t.val] S768x256.size (inbH r t)) w Finset.univ (View.stores_vmem h_S768x256 ((Memref.isWhole_whole _).storeExact_slice rfl _ (packedH r t)) (fun _ => rfl)) (.inl rfl))
abbrev ldXb (r : Fin 2) : Prog (TpuEff nD τ sig (Elt F) Λ₀ .tc) (Vec F S768x1536 .bf16) :=
  Prog.lift (.load xbM (Rect.unit (s := S1536x1536) ![768 * r.val, 0] S768x1536.size (inbXb r)).toLoadRect (View.loadsAt_vmem h_S768x1536))
abbrev ldW (s i : Fin 2) : Prog (TpuEff nD τ sig (Elt F) Λ₀ .tc) (Vec F S1x1x1536x256 .f32) :=
  Prog.lift (.load wM (Rect.unit (s := S2x2x1536x256) ![s.val, i.val, 0, 0] S1x1x1536x256.size (inbW s i)).toLoadRect (View.loadsAt_vmem h_S1x1x1536x256))
abbrev ldWd (s : Fin 2) : Prog (TpuEff nD τ sig (Elt F) Λ₀ .tc) (Vec F S1x256x1536 .f32) :=
  Prog.lift (.load wdM (Rect.unit (s := S2x512x1536) ![s.val, 0, 0] S1x256x1536.size (inbWd s)).toLoadRect (View.loadsAt_vmem h_S1x256x1536))
abbrev ldWd5 (s : Fin 2) : Prog (TpuEff nD τ sig (Elt F) Λ₀ .tc) (Vec F S1x512x1536 .f32) :=
  Prog.lift (.load wdM (Rect.unit (s := S2x512x1536) ![s.val, 0, 0] S1x512x1536.size (inbWd5 s)).toLoadRect (View.loadsAt_vmem h_S1x512x1536))
/-- A whole sending buffer. -/
abbrev ldS (m : Memref sig .tc .vmem S192x1536 .bf16) : Prog (TpuEff nD τ sig (Elt F) Λ₀ .tc) (Vec F S192x1536 .bf16) :=
  Prog.lift (.load m (Rect.unit (s := S192x1536) ![0, 0] S192x1536.size inb_S192x1536_S192x1536_0_0).toLoadRect (View.loadsAt_vmem h_S192x1536))
abbrev stS (m : Memref sig .tc .vmem S192x1536 .bf16) (hm : m.IsWhole) (w : Vec F S192x1536 .bf16) : Body F :=
  Prog.lift (.store m (Rect.unit (s := S192x1536) ![0, 0] S192x1536.size inb_S192x1536_S192x1536_0_0) w Finset.univ (View.stores_vmem h_S192x1536 (hm.storeExact_slice rfl _ packedbf16_S192x1536_S192x1536_0_0) (fun _ => rfl)) (.inl rfl))
/-- A block of a landing buffer. -/
abbrev ldC (m : Memref sig .tc .vmem S3x192x1536 .bf16) (j : Fin 3) : Prog (TpuEff nD τ sig (Elt F) Λ₀ .tc) (Vec F S1x192x1536 .bf16) :=
  Prog.lift (.load m (Rect.unit (s := S3x192x1536) ![j.val, 0, 0] S1x192x1536.size (inbC j)).toLoadRect (View.loadsAt_vmem h_S1x192x1536))

/-- A local copy out of an argument. -/
abbrev cpL {s : Shape} (src : Memref sig .tc .hbm s .f32) (dst : Memref sig .tc .vmem s .f32) (q : DmaSem sig)
    (h1 : src.view.WordExact) (h2 : dst.view.WordExact) : Body F :=
  Prog.lift (.enqueueDma src (.here dst) (.dma q) h1 h2 ⟨Or.inl rfl, trivial⟩)
abbrev cpW (m : Memref sig .tc .hbm S1536x3072 .f32) (s i : Fin 2) (i3 : Fin 3) (t : Fin 12) : Body F :=
  cpL (guWin m t) (wWin s i) (lSem s i3) (View.wordExact_bits rfl) ((View.wordExact_bits rfl).reshape _ _)
abbrev cpD (s : Fin 2) (t : Fin 12) : Body F :=
  cpL (dWin t) (wdWin s) (lSem s 2) (View.wordExact_bits rfl) ((View.wordExact_bits rfl).reshape _ _)
abbrev cpD5 (s : Fin 2) (t : Fin 6) : Body F :=
  cpL (dWin5 t) (wdWin5 s) (lSem s 2) (View.wordExact_bits rfl) ((View.wordExact_bits rfl).reshape _ _)
abbrev wtL {s : Shape} (src : Memref sig .tc .hbm s .f32) (dst : Memref sig .tc .vmem s .f32) (q : DmaSem sig)
    (h1 : src.view.WordExact) (h2 : dst.view.WordExact) : Body F :=
  Prog.lift (.waitDma2 q src dst h1 h2)
abbrev wtW (m : Memref sig .tc .hbm S1536x3072 .f32) (s i : Fin 2) (i3 : Fin 3) (t : Fin 12) : Body F :=
  wtL (guWin m t) (wWin s i) (lSem s i3) (View.wordExact_bits rfl) ((View.wordExact_bits rfl).reshape _ _)
abbrev wtD (s : Fin 2) (t : Fin 12) : Body F :=
  wtL (dWin t) (wdWin s) (lSem s 2) (View.wordExact_bits rfl) ((View.wordExact_bits rfl).reshape _ _)
abbrev wtD5 (s : Fin 2) (t : Fin 6) : Body F :=
  wtL (dWin5 t) (wdWin5 s) (lSem s 2) (View.wordExact_bits rfl) ((View.wordExact_bits rfl).reshape _ _)

/-- A copy to a neighbour. -/
abbrev snd (p : Dev nD) (src dst : Memref sig .tc .vmem S192x1536 .bf16) (qs qr : DmaSem sig)
    (h1 : src.view.WordExact) (h2 : dst.view.WordExact) : Body F :=
  Prog.lift (.enqueueDma src (.remote (Dev.tc p) dst (.dma qs)) (.dma qr) h1 h2 ⟨⟨rfl, Or.inl rfl⟩, trivial⟩)
abbrev wt (q : DmaSem sig) (src dst : Memref sig .tc .vmem S192x1536 .bf16)
    (h1 : src.view.WordExact) (h2 : dst.view.WordExact) : Body F :=
  Prog.lift (.waitDma2 q src dst h1 h2)

end Ops

/-! ## The program -/

/-- `f` at `t`, `t + 1`, …, `k` of them. -/
def loop {n : Nat} (f : Fin n → Body F) : Nat → Nat → Body F
  | 0, _ => pure ⟨⟩
  | k + 1, t => if h : t < n then (do f ⟨t, h⟩; loop f k (t + 1)) else pure ⟨⟩

/-- The slot of a counter. -/
abbrev slot (t : Nat) : Fin 2 := ⟨t % 2, Nat.mod_lt _ (by decide)⟩

/-- The copies of a tile of the three weights. -/
def start (t : Fin 12) : Body F := do
  cpW gM (slot t) 0 0 t
  cpW uM (slot t) 1 1 t
  cpD (slot t) t

/-- Half `r` of the hidden tile `t`. -/
def hidden (t : Fin 12) (r : Fin 2) : Body F := do
  let a ← ldXb r
  let wg ← ldW (slot t) 0
  let b ← ldXb r
  let wu ← ldW (slot t) 1
  let _ ← ldHt (F := F) r t
  stHt r t (k0_pay4 a wg b wu)

/-- Add the product of tile `t` to the rows of direction `g`. -/
def acc0 (d : Dev nD) (t : Fin 12) (w : Vec F S1x256x1536 .f32) (g : Fin 2) : Body F := do
  let h ← ldH d g t
  if t.val = 0 then (do
    let _ ← ldO (F := F) d g 0
    stO d g 0 (k0_pay6 (k0_pay5 w) h))
  else (do
    let o ← ldO d g 0
    let _ ← ldO (F := F) d g 0
    stO d g 0 (k0_pay11 w h o))

/-- The copies of the tile after `t`. -/
def startNext (t : Fin 12) : Body F :=
  if h : t.val + 1 < 12 then start ⟨t.val + 1, h⟩ else pure ⟨⟩
/-- The copies of tile `t` have landed. -/
def waits (t : Fin 12) : Body F := do
  wtW gM (slot t) 0 0 t
  wtW uM (slot t) 1 1 t
  wtD (slot t) t

/-- One tile of the first phase. -/
def tile0 (d : Dev nD) (t : Fin 12) : Body F := do
  startNext t
  waits t
  hidden t 0
  hidden t 1
  let w ← ldWd (slot t)
  acc0 d t w 0
  acc0 d t w 1

/-- The sums of direction `g` at step `j` go to the neighbour. -/
def post (d : Dev nD) (j : Fin 3) (g : Fin 2) : Body F := do
  let o ← ldO d g j.castSucc
  let _ ← ldS (F := F) (sbM g)
  stS (sbM g) (sbM_isWhole g) (k0_pay70 o)
  snd (peer d g) (sbM g) (slotWin (commM g) j) (rsS g j) (rsR g j) (sbM_isWhole g).wordExact (slotWin_wordExact (commM_isWhole g) j)

/-- The neighbour's sums arrive and are added. -/
def take (d : Dev nD) (j : Fin 3) (g : Fin 2) : Body F := do
  wt (rsS g j) (slotWin (commM g) j) (sbM g) (slotWin_wordExact (commM_isWhole g) j) (sbM_isWhole g).wordExact
  wt (rsR g j) (sbM g) (slotWin (commM g) j) (sbM_isWhole g).wordExact (slotWin_wordExact (commM_isWhole g) j)
  let o ← ldO d g j.succ
  let c ← ldC (commM g) j
  let _ ← ldO (F := F) d g j.succ
  stO d g j.succ (k0_pay91 o c)

/-- Add the product of tile `t` to the rows of pass `m`. -/
def acc1 (d : Dev nD) (m : Fin 3) (t : Fin 6) (w : Vec F S1x512x1536 .f32) (g : Fin 2) : Body F := do
  let h ← ldH5 d g m t
  if t.val = 0 then (do
    let _ ← ldO (F := F) d g m.succ
    stO d g m.succ (k0_pay73 w h))
  else (do
    let o ← ldO d g m.succ
    let _ ← ldO (F := F) d g m.succ
    stO d g m.succ (k0_pay83 w h o))

/-- The copy of the tile after tile `t` of pass `m`. -/
def startDNext (m : Fin 3) (t : Fin 6) : Body F :=
  if 6 * m.val + t.val + 1 < 18 then cpD5 (slot (t.val + 1)) ⟨(t.val + 1) % 6, Nat.mod_lt _ (by decide)⟩ else pure ⟨⟩

/-- One tile of the second phase. -/
def tile1 (d : Dev nD) (m : Fin 3) (t : Fin 6) : Body F := do
  startDNext m t
  wtD5 (slot t) t
  let w ← ldWd5 (slot t)
  acc1 d m t w 0
  acc1 d m t w 1

/-- The sums of pass `m` go on, but for the last pass. -/
def postNext (d : Dev nD) (m : Fin 3) : Body F :=
  if h : m.val + 1 < 3 then (do
    post d ⟨m.val + 1, h⟩ 0
    post d ⟨m.val + 1, h⟩ 1)
  else pure ⟨⟩

/-- One pass of the second phase, with what arrives meanwhile. -/
def pass (d : Dev nD) (m : Fin 3) : Body F := do
  loop (tile1 d m) 6 0
  take d m 0
  take d m 1
  postNext d m

/-- The finished rows of direction `g`, narrowed for the all-gather. -/
def own (d : Dev nD) (g : Fin 2) : Body F := do
  let o ← ldOwn d g
  let _ ← ldS (F := F) (ag0M g)
  stS (ag0M g) (ag0M_isWhole g) (k0_pay141 o)

/-- Hop `s` of the all-gather. -/
def hop (d : Dev nD) (s : Fin 3) (g : Fin 2) : Body F :=
  snd (peer d g) (agSrc g s) (slotWin (agM g) s) (agS g s) (agR g s) (agSrc_wordExact g s) (slotWin_wordExact (agM_isWhole g) s)

def arrive (s : Fin 3) (g : Fin 2) : Body F :=
  wt (agR g s) (agSrc g s) (slotWin (agM g) s) (agSrc_wordExact g s) (slotWin_wordExact (agM_isWhole g) s)

/-- What arrived is written out. -/
def emit (d : Dev nD) (s : Fin 3) (g : Fin 2) : Body F := do
  let c ← ldC (agM g) s
  let _ ← ldO (F := F) d g s.castSucc
  stO d g s.castSucc (k0_pay142 c)

/-- What arrived at hop `s` goes on, but for the last hop. -/
def hopNext (d : Dev nD) (s : Fin 3) : Body F :=
  if h : s.val + 1 < 3 then (do
    hop d ⟨s.val + 1, h⟩ 0
    hop d ⟨s.val + 1, h⟩ 1)
  else pure ⟨⟩

def gather (d : Dev nD) (s : Fin 3) : Body F := do
  arrive s 0
  arrive s 1
  hopNext d s
  emit d s 0
  emit d s 1

def drain1 (s : Fin 3) (g : Fin 2) : Body F :=
  wt (agS g s) (slotWin (agM g) s) (agSrc g s) (slotWin_wordExact (agM_isWhole g) s) (agSrc_wordExact g s)

def drain (s : Fin 3) : Body F := do
  drain1 s 0
  drain1 s 1

/-- The input, narrowed. -/
def narrow : Body F := do
  let x ← (Prog.lift (.load xM (Rect.unit (s := S1536x1536) ![0, 0] S1536x1536.size inb_S1536x1536_S1536x1536_0_0).toLoadRect (View.loadsAt_vmem h_S1536x1536)) : Prog (TpuEff nD τ sig (Elt F) Λ₀ .tc) (Vec F S1536x1536 .f32))
  let _ ← (Prog.lift (.load xbM (Rect.unit (s := S1536x1536) ![0, 0] S1536x1536.size inb_S1536x1536_S1536x1536_0_0).toLoadRect (View.loadsAt_vmem h_S1536x1536)) : Prog (TpuEff nD τ sig (Elt F) Λ₀ .tc) (Vec F S1536x1536 .bf16))
  Prog.lift (.store xbM (Rect.unit (s := S1536x1536) ![0, 0] S1536x1536.size inb_S1536x1536_S1536x1536_0_0) (k0_pay1 x) Finset.univ (View.stores_vmem h_S1536x1536 ((Memref.isWhole_whole _).storeExact_slice rfl _ packedbf16_S1536x1536_S1536x1536_0_0) (fun _ => rfl)) (.inl rfl))

/-- The first half: up to the exchange of the barrier's units. -/
def phaseA (d : Dev nD) : Body F := do
  start 0
  narrow
  loop (tile0 d) 12 0

/-- The reduce-scatter. -/
def phaseB (d : Dev nD) : Body F := do
  post d 0 0
  post d 0 1
  cpD5 0 0
  loop (pass d) 3 0

/-- The all-gather. -/
def phaseC (d : Dev nD) : Body F := do
  own d 0
  own d 1
  hop d 0 0
  hop d 0 1
  loop (gather d) 3 0
  loop drain 3 0

def ringProg (d : Dev nD) : Body F := do
  semSignalWord (⟨k0_dev1 d, k0_dev1_lt d⟩ : Dev nD) barS 1#32
  semSignalWord (⟨k0_dev2 d, k0_dev2_lt d⟩ : Dev nD) barS 1#32
  phaseA d
  semWaitWord barS 2#32
  phaseB d
  phaseC d

def prog : Body F := do
  let d ← Prog.lift .deviceId
  ringProg d

end Cert.KernelIdeal.Ring
end
-- ==== Proof.KernelIdeal.Vals.lean ====
/-
The contents of the kernel's buffers as functions of the arguments, and how the loads and stores of
the body read and change them.
-/
module

public import proofs.«01_k».proof.Proof.KernelIdeal.Prog
public import Idealize.ShloMosaic.Lib.Pipeline.Launch
public import Idealize.ShloMosaic.Lib.Pipeline.Kit
public import Idealize.ShloMosaic.Lib.Tactic
public import Idealize.ShloMosaic.Lib.Pointwise.Index
public import Idealize.ShloMosaic.Lib.Pipeline.ValueKit

@[expose] public section

set_option maxRecDepth 16384

noncomputable section

namespace Cert.KernelIdeal.Ring

open Idealize.ShloMosaic Idealize.SL.Sem Cert.KernelIdeal Cert.KernelIdeal.Gen
open Idealize.ShloMosaic.TcCoe

variable {F : FTy → Type} [FloatOps F]

/-! ## The accumulator: eight blocks of rows -/

/-- Eight row blocks, one above the other. -/
def glue (g : Fin 8 → Vec F S192x1536 .f32) : Vec F S1536x1536 .f32 := fun i =>
  g ⟨(i 0).val / 192, by have : (i 0).val < 1536 := (i 0).isLt; omega⟩ (ix2 ⟨(i 0).val % 192, Nat.mod_lt _ (by decide)⟩ (i 1))

omit [FloatOps F] in
theorem exists_glue (f : Vec F S1536x1536 .f32) : ∃ g, f = glue g := by
  refine ⟨fun b j => f (ix2 ⟨192 * b.val + (j 0).val, by have : (j 0).val < 192 := (j 0).isLt; omega⟩ (j 1)), funext fun i => ?_⟩
  idx_vars i
  unfold glue
  congr 1
  have h : 192 * (i0.val / 192) + i0.val % 192 = i0.val := by omega
  simp only [ix2_0, ix2_1]
  congr 1
  exact Fin.ext h.symm

/-- Block `b`'s rows. -/
theorem rows_emb (b : Fin 8) {inb} (j : S192x1536.Idx) :
    (Rect.unit (s := S1536x1536) ![192 * b.val, 0] S192x1536.size inb).emb j
      = ix2 ⟨192 * b.val + (j 0).val, by have : (j 0).val < 192 := (j 0).isLt; omega⟩ (j 1) := by
  funext a; fin_cases a
  · exact Fin.ext (ValueKit.rect_emb_unit_val _ _ _ _ _)
  · exact Fin.ext ((ValueKit.rect_emb_unit_val _ _ _ _ _).trans (Nat.zero_add _))

omit [FloatOps F] in
theorem glue_rows (g : Fin 8 → Vec F S192x1536 .f32) (b : Fin 8) (r : Fin 192) (c : Fin 1536) :
    glue g (ix2 ⟨192 * b.val + r.val, by omega⟩ c) = g b (ix2 r c) := by
  unfold glue
  have h1 : (192 * b.val + r.val) / 192 = b.val := by omega
  have h2 : (192 * b.val + r.val) % 192 = r.val := by omega
  simp only [ix2_0, ix2_1, h1, h2]

omit [FloatOps F] in
theorem glue_read (g : Fin 8 → Vec F S192x1536 .f32) {off : Fin 2 → Nat} (b : Fin 8) (h : off = ![192 * b.val, 0]) {inb} :
    (oM.access (Rect.unit (s := S1536x1536) off S192x1536.size inb)).read (Elt F) (glue g) = g b := by
  subst h
  funext j
  show glue g ((Rect.unit (s := S1536x1536) ![192 * b.val, 0] S192x1536.size inb).emb j) = g b j
  rw [rows_emb]
  exact (glue_rows g b (j 0) (j 1)).trans (congrArg (g b) (ix2_eta j))

omit [FloatOps F] in
theorem glue_write (g : Fin 8 → Vec F S192x1536 .f32) {off : Fin 2 → Nat} (b : Fin 8) (h : off = ![192 * b.val, 0]) {inb}
    (w : Vec F S192x1536 .f32) :
    (oM.access (Rect.unit (s := S1536x1536) off S192x1536.size inb)).write (Elt F) (glue g) w Finset.univ
      = glue (Function.update g b w) := by
  subst h
  funext i
  idx_vars i
  have hi : i0.val = 192 * (i0.val / 192) + i0.val % 192 := by omega
  have hlt : i0.val / 192 < 8 := by omega
  have e : ix2 i0 i1 = ix2 (n0 := 1536) (n1 := 1536) ⟨192 * (⟨i0.val / 192, hlt⟩ : Fin 8).val + (⟨i0.val % 192, Nat.mod_lt _ (by decide)⟩ : Fin 192).val, by omega⟩ i1 := by
    congr 1; exact Fin.ext hi
  by_cases hb : i0.val / 192 = b.val
  · have hb' : (⟨i0.val / 192, hlt⟩ : Fin 8) = b := Fin.ext hb
    subst hb'
    rw [e, glue_rows, Function.update_self]
    have := View.write_emb_of_mem (v := oM.access (Rect.unit (s := S1536x1536) ![192 * (⟨i0.val / 192, hlt⟩ : Fin 8).val, 0] S192x1536.size inb)) (Val := Elt F)
      (glue g) w (M := Finset.univ) (x := ix2 ⟨i0.val % 192, Nat.mod_lt _ (by decide)⟩ i1) (Finset.mem_univ _)
    have he : (oM.access (Rect.unit (s := S1536x1536) ![192 * (⟨i0.val / 192, hlt⟩ : Fin 8).val, 0] S192x1536.size inb)).emb (ix2 ⟨i0.val % 192, Nat.mod_lt _ (by decide)⟩ i1)
        = ix2 ⟨192 * (⟨i0.val / 192, hlt⟩ : Fin 8).val + (⟨i0.val % 192, Nat.mod_lt _ (by decide)⟩ : Fin 192).val, by omega⟩ i1 :=
      rows_emb ⟨i0.val / 192, hlt⟩ (inb := inb) _
    rw [he] at this
    exact this
  · have hb' : (⟨i0.val / 192, hlt⟩ : Fin 8) ≠ b := fun h => hb (congrArg Fin.val h)
    rw [View.write_of_not_mem, e, glue_rows, glue_rows, Function.update_of_ne hb']
    intro hm
    obtain ⟨x, _, hx⟩ := Finset.mem_map.mp hm
    have hx' : (Rect.unit (s := S1536x1536) ![192 * b.val, 0] S192x1536.size inb).emb x = ix2 i0 i1 := hx
    rw [rows_emb] at hx'
    have h0 := congrArg Fin.val ((ix2_inj _ _ _ _).mp hx').1
    have : (x 0).val < 192 := (x 0).isLt
    dsimp only at h0
    omega

theorem blk_inj {d : Dev nD} {g g' : Fin 2} {j j' : Fin 4} : blk d g j = blk d g' j' → g = g' ∧ j = j' := by
  revert d g g' j j'; decide
/-- The direction and the step of a row block, on device `d`. -/
def dirOf (b : Fin 8) : Fin 2 := if b.val < 4 then 0 else 1
def stepOf (d : Dev nD) (b : Fin 8) : Fin 4 :=
  if b.val < 4 then ⟨(d.val + 4 - b.val) % 4, Nat.mod_lt _ (by decide)⟩ else ⟨(b.val - d.val) % 4, Nat.mod_lt _ (by decide)⟩
theorem blk_of (d : Dev nD) (b : Fin 8) : blk d (dirOf b) (stepOf d b) = b := by revert d b; decide

/-! ## The hidden rows -/

/-- Columns of a weight. -/
def cols (X : Vec F S1536x3072 .f32) (t : Fin 12) : Vec F S1536x256 .f32 := fun j =>
  X ((Rect.unit (s := S1536x3072) ![0, 256 * t.val] S1536x256.size (inbG t)).emb j)
/-- 256 rows of the down weight. -/
def downRows (X : Vec F S3072x1536 .f32) (t : Fin 12) : Vec F S256x1536 .f32 := fun j =>
  X ((Rect.unit (s := S3072x1536) ![256 * t.val, 0] S256x1536.size (inbD t)).emb j)
/-- 512 rows of the down weight. -/
def downRows5 (X : Vec F S3072x1536 .f32) (t : Fin 6) : Vec F S512x1536 .f32 := fun j =>
  X ((Rect.unit (s := S3072x1536) ![512 * t.val, 0] S512x1536.size (inbD5 t)).emb j)
/-- Half of the narrowed input. -/
def xRows (xb : Vec F S1536x1536 .bf16) (r : Fin 2) : Vec F S768x1536 .bf16 := fun j =>
  xb ((Rect.unit (s := S1536x1536) ![768 * r.val, 0] S768x1536.size (inbXb r)).emb j)

/-- One tile of the hidden rows. -/
def hT (x : Vec F S768x1536 .bf16) (wg wu : Vec F S1536x256 .f32) : Vec F S768x256 .bf16 :=
  shapeCast S768x256
    (truncf .bf16
      (mulf (matmul dot_S768x1536_S1536x256_S768x256_1_0_0_1_n_n none x (truncf .bf16 wg bitsLt_bf16_f32) (constant S768x256 .f32 0x00000000#32))
        (mulf (matmul dot_S768x1536_S1536x256_S768x256_1_0_0_1_n_n none x (truncf .bf16 wu bitsLt_bf16_f32) (constant S768x256 .f32 0x00000000#32))
          (logistic (matmul dot_S768x1536_S1536x256_S768x256_1_0_0_1_n_n none x (truncf .bf16 wu bitsLt_bf16_f32) (constant S768x256 .f32 0x00000000#32)))))
      bitsLt_bf16_f32)
    shapeCasts_S768x256_S768x256

theorem pay4_eq (a : Vec F S768x1536 .bf16) (V V' : Vec F S1x1x1536x256 .f32) :
    k0_pay4 a V a V' = hT a (shapeCast S1536x256 V shapeCasts_S1x1x1536x256_S1536x256) (shapeCast S1536x256 V' shapeCasts_S1x1x1536x256_S1536x256) := rfl

/-- The hidden rows, whole. -/
def hid (xb : Vec F S1536x1536 .bf16) (G U : Vec F S1536x3072 .f32) : Vec F S1536x3072 .bf16 := fun i =>
  hT (xRows xb ⟨(i 0).val / 768, by have : (i 0).val < 1536 := (i 0).isLt; omega⟩)
    (cols G ⟨(i 1).val / 256, by have : (i 1).val < 3072 := (i 1).isLt; omega⟩)
    (cols U ⟨(i 1).val / 256, by have : (i 1).val < 3072 := (i 1).isLt; omega⟩)
    (ix2 ⟨(i 0).val % 768, Nat.mod_lt _ (by decide)⟩ ⟨(i 1).val % 256, Nat.mod_lt _ (by decide)⟩)

/-- `f` agrees with `H` on the first `t` column tiles and the first `k` halves of the next one. -/
def HInv (H : Vec F S1536x3072 .bf16) (t k : Nat) (f : Vec F S1536x3072 .bf16) : Prop :=
  ∀ (a : Fin 1536) (b : Fin 3072), (b.val < 256 * t ∨ (b.val < 256 * (t + 1) ∧ a.val < 768 * k)) → f (ix2 a b) = H (ix2 a b)

omit [FloatOps F] in
theorem HInv_zero (H f : Vec F S1536x3072 .bf16) : HInv H 0 0 f := fun a b h => by omega
omit [FloatOps F] in
theorem HInv_next {H f : Vec F S1536x3072 .bf16} {t : Nat} (h : HInv H t 2 f) : HInv H (t + 1) 0 f := fun a b hb =>
  h a b (by have := a.isLt; omega)
omit [FloatOps F] in
theorem HInv_done {H f : Vec F S1536x3072 .bf16} (h : HInv H 12 0 f) : f = H := by
  funext i; idx_vars i; exact h i0 i1 (by have := i1.isLt; omega)

theorem htile_emb (r : Fin 2) (t : Fin 12) {inb} (j : S768x256.Idx) :
    (Rect.unit (s := S1536x3072) ![768 * r.val, 256 * t.val] S768x256.size inb).emb j
      = ix2 ⟨768 * r.val + (j 0).val, by have : (j 0).val < 768 := (j 0).isLt; omega⟩
          ⟨256 * t.val + (j 1).val, by have : (j 1).val < 256 := (j 1).isLt; omega⟩ := by
  funext a; fin_cases a <;> exact Fin.ext (ValueKit.rect_emb_unit_val _ _ _ _ _)

theorem hid_tile (xb : Vec F S1536x1536 .bf16) (G U : Vec F S1536x3072 .f32) (r : Fin 2) (t : Fin 12) (a : Fin 768) (b : Fin 256) :
    hid xb G U (ix2 ⟨768 * r.val + a.val, by omega⟩ ⟨256 * t.val + b.val, by omega⟩)
      = hT (xRows xb r) (cols G t) (cols U t) (ix2 a b) := by
  unfold hid
  have h1 : (768 * r.val + a.val) / 768 = r.val := by omega
  have h2 : (768 * r.val + a.val) % 768 = a.val := by omega
  have h3 : (256 * t.val + b.val) / 256 = t.val := by omega
  have h4 : (256 * t.val + b.val) % 256 = b.val := by omega
  simp only [ix2_0, ix2_1, h1, h2, h3, h4]

theorem HInv_write (xb : Vec F S1536x1536 .bf16) (G U : Vec F S1536x3072 .f32) (r : Fin 2) (t : Fin 12) {inb}
    {f f' : Vec F S1536x3072 .bf16} (h : HInv (hid xb G U) t.val r.val f)
    (hf' : f' = (hM.access (Rect.unit (s := S1536x3072) ![768 * r.val, 256 * t.val] S768x256.size inb)).write (Elt F) f
        (hT (xRows xb r) (cols G t) (cols U t)) Finset.univ) :
    HInv (hid xb G U) t.val (r.val + 1) f' := by
  subst hf'
  intro a b hab
  by_cases hin : 768 * r.val ≤ a.val ∧ a.val < 768 * r.val + 768 ∧ 256 * t.val ≤ b.val ∧ b.val < 256 * t.val + 256
  · obtain ⟨ha1, ha2, hb1, hb2⟩ := hin
    have e : ix2 a b = ix2 (n0 := 1536) (n1 := 3072) ⟨768 * r.val + (⟨a.val - 768 * r.val, by omega⟩ : Fin 768).val, by omega⟩
        ⟨256 * t.val + (⟨b.val - 256 * t.val, by omega⟩ : Fin 256).val, by omega⟩ := by
      congr 1 <;> exact Fin.ext (by dsimp only; omega)
    rw [e, hid_tile]
    have := View.write_emb_of_mem (v := hM.access (Rect.unit (s := S1536x3072) ![768 * r.val, 256 * t.val] S768x256.size inb)) (Val := Elt F)
      f (hT (xRows xb r) (cols G t) (cols U t)) (M := Finset.univ)
      (x := ix2 ⟨a.val - 768 * r.val, by omega⟩ ⟨b.val - 256 * t.val, by omega⟩) (Finset.mem_univ _)
    rw [show (hM.access (Rect.unit (s := S1536x3072) ![768 * r.val, 256 * t.val] S768x256.size inb)).emb
        (ix2 ⟨a.val - 768 * r.val, by omega⟩ ⟨b.val - 256 * t.val, by omega⟩) = _ from htile_emb r t (inb := inb) _] at this
    exact this
  · rw [View.write_of_not_mem]
    · exact h a b (by omega)
    · intro hm
      obtain ⟨x, _, hx⟩ := Finset.mem_map.mp hm
      have hx' : (Rect.unit (s := S1536x3072) ![768 * r.val, 256 * t.val] S768x256.size inb).emb x = ix2 a b := hx
      rw [htile_emb] at hx'
      have h0 := congrArg Fin.val ((ix2_inj _ _ _ _).mp hx').1
      have h1 := congrArg Fin.val ((ix2_inj _ _ _ _).mp hx').2
      have : (x 0).val < 768 := (x 0).isLt
      have : (x 1).val < 256 := (x 1).isLt
      dsimp only at h0 h1
      omega

/-- 192 hidden rows of column tile `t`. -/
def hRows (H : Vec F S1536x3072 .bf16) (b : Fin 8) (t : Fin 12) : Vec F S192x256 .bf16 := fun j =>
  H (ix2 ⟨192 * b.val + (j 0).val, by have : (j 0).val < 192 := (j 0).isLt; omega⟩
    ⟨256 * t.val + (j 1).val, by have : (j 1).val < 256 := (j 1).isLt; omega⟩)
/-- 192 hidden rows of double column tile `t`. -/
def hRows5 (H : Vec F S1536x3072 .bf16) (b : Fin 8) (t : Fin 6) : Vec F S192x512 .bf16 := fun j =>
  H (ix2 ⟨192 * b.val + (j 0).val, by have : (j 0).val < 192 := (j 0).isLt; omega⟩
    ⟨512 * t.val + (j 1).val, by have : (j 1).val < 512 := (j 1).isLt; omega⟩)

omit [FloatOps F] in
theorem hRows_read {H f : Vec F S1536x3072 .bf16} {off : Fin 2 → Nat} (b : Fin 8) (t : Fin 12) (h : off = ![192 * b.val, 256 * t.val]) {inb}
    (hf : HInv H t.val 2 f) :
    (hM.access (Rect.unit (s := S1536x3072) off S192x256.size inb)).read (Elt F) f = hRows H b t := by
  subst h
  funext j
  show f ((Rect.unit (s := S1536x3072) ![192 * b.val, 256 * t.val] S192x256.size inb).emb j) = _
  have e : (Rect.unit (s := S1536x3072) ![192 * b.val, 256 * t.val] S192x256.size inb).emb j
      = ix2 ⟨192 * b.val + (j 0).val, by have : (j 0).val < 192 := (j 0).isLt; omega⟩
          ⟨256 * t.val + (j 1).val, by have : (j 1).val < 256 := (j 1).isLt; omega⟩ := by
    funext a; fin_cases a <;> exact Fin.ext (ValueKit.rect_emb_unit_val _ _ _ _ _)
  rw [e]
  exact hf _ _ (by have : (j 0).val < 192 := (j 0).isLt; have : (j 1).val < 256 := (j 1).isLt; dsimp only; omega)

omit [FloatOps F] in
theorem hRows5_read (H : Vec F S1536x3072 .bf16) {off : Fin 2 → Nat} (b : Fin 8) (t : Fin 6) (h : off = ![192 * b.val, 512 * t.val]) {inb} :
    (hM.access (Rect.unit (s := S1536x3072) off S192x512.size inb)).read (Elt F) H = hRows5 H b t := by
  subst h
  funext j
  show H ((Rect.unit (s := S1536x3072) ![192 * b.val, 512 * t.val] S192x512.size inb).emb j) = _
  unfold hRows5
  congr 1
  funext a; fin_cases a <;> exact Fin.ext (ValueKit.rect_emb_unit_val _ _ _ _ _)

/-! ## The sums -/

/-- The product of 192 hidden rows with 256 rows of the down weight. -/
def mm (w : Vec F S256x1536 .f32) (h : Vec F S192x256 .bf16) : Vec F S192x1536 .f32 :=
  matmul dot_S192x256_S256x1536_S192x1536_1_0_0_1_n_n none h (truncf .bf16 w bitsLt_bf16_f32) (constant S192x1536 .f32 0x00000000#32)
/-- The same with 512 rows. -/
def mm5 (w : Vec F S512x1536 .f32) (h : Vec F S192x512 .bf16) : Vec F S192x1536 .f32 :=
  matmul dot_S192x512_S512x1536_S192x1536_1_0_0_1_n_n none h (truncf .bf16 w bitsLt_bf16_f32) (constant S192x1536 .f32 0x00000000#32)
def addTo (o v : Vec F S192x1536 .f32) : Vec F S192x1536 .f32 :=
  addf (shapeCast S192x1536 o shapeCasts_S192x1536_S192x1536) v

theorem pay6_eq (w : Vec F S1x256x1536 .f32) (h : Vec F S192x256 .bf16) :
    k0_pay6 (k0_pay5 w) h = mm (shapeCast S256x1536 w shapeCasts_S1x256x1536_S256x1536) h := rfl
theorem pay11_eq (w : Vec F S1x256x1536 .f32) (h : Vec F S192x256 .bf16) (o : Vec F S192x1536 .f32) :
    k0_pay11 w h o = addTo o (mm (shapeCast S256x1536 w shapeCasts_S1x256x1536_S256x1536) h) := rfl
theorem pay73_eq (w : Vec F S1x512x1536 .f32) (h : Vec F S192x512 .bf16) :
    k0_pay73 w h = mm5 (shapeCast S512x1536 w shapeCasts_S1x512x1536_S512x1536) h := rfl
theorem pay83_eq (w : Vec F S1x512x1536 .f32) (h : Vec F S192x512 .bf16) (o : Vec F S192x1536 .f32) :
    k0_pay83 w h o = addTo o (mm5 (shapeCast S512x1536 w shapeCasts_S1x512x1536_S512x1536) h) := rfl

/-- What one tile makes of the sum so far. -/
def step0 (H : Vec F S1536x3072 .bf16) (D : Vec F S3072x1536 .f32) (b : Fin 8) (t : Fin 12) (v : Vec F S192x1536 .f32) : Vec F S192x1536 .f32 :=
  if t.val = 0 then mm (downRows D t) (hRows H b t) else addTo v (mm (downRows D t) (hRows H b t))
def step1 (H : Vec F S1536x3072 .bf16) (D : Vec F S3072x1536 .f32) (b : Fin 8) (t : Fin 6) (v : Vec F S192x1536 .f32) : Vec F S192x1536 .f32 :=
  if t.val = 0 then mm5 (downRows5 D t) (hRows5 H b t) else addTo v (mm5 (downRows5 D t) (hRows5 H b t))

/-- The first `k` steps from `v`. -/
def fold {α : Type} {n : Nat} (f : Fin n → α → α) (v : α) : Nat → α
  | 0 => v
  | k + 1 => if h : k < n then f ⟨k, h⟩ (fold f v k) else fold f v k

theorem fold_succ {α : Type} {n : Nat} (f : Fin n → α → α) (v : α) (t : Fin n) : fold f v (t.val + 1) = f t (fold f v t.val) :=
  dif_pos t.isLt
/-- Where the first step ignores what was there, so does every later sum. -/
theorem fold_start {α : Type} {n : Nat} (f : Fin n → α → α) (h : ∀ (t : Fin n) v v', t.val = 0 → f t v = f t v') (hn : 0 < n) (v v' : α) (k : Nat) :
    fold f v (k + 1) = fold f v' (k + 1) := by
  induction k with
  | zero => unfold fold; rw [dif_pos hn, dif_pos hn]; exact h _ _ _ rfl
  | succ k ih => unfold fold; rw [ih]

/-- Device sum of row block `b`, first phase. -/
def sum0 (H : Vec F S1536x3072 .bf16) (D : Vec F S3072x1536 .f32) (b : Fin 8) : Vec F S192x1536 .f32 :=
  fold (step0 H D b) (constant S192x1536 .f32 0x00000000#32) 12
/-- Device sum of row block `b`, second phase. -/
def sum1 (H : Vec F S1536x3072 .bf16) (D : Vec F S3072x1536 .f32) (b : Fin 8) : Vec F S192x1536 .f32 :=
  fold (step1 H D b) (constant S192x1536 .f32 0x00000000#32) 6

theorem fold0_eq (H : Vec F S1536x3072 .bf16) (D : Vec F S3072x1536 .f32) (b : Fin 8) (v : Vec F S192x1536 .f32) :
    fold (step0 H D b) v 12 = sum0 H D b :=
  fold_start _ (fun t v v' h => by unfold step0; rw [if_pos h, if_pos h]) (by decide) _ _ 11
theorem fold1_eq (H : Vec F S1536x3072 .bf16) (D : Vec F S3072x1536 .f32) (b : Fin 8) (v : Vec F S192x1536 .f32) :
    fold (step1 H D b) v 6 = sum1 H D b :=
  fold_start _ (fun t v v' h => by unfold step1; rw [if_pos h, if_pos h]) (by decide) _ _ 5

/-! ## The ring -/

variable (m : (ℓ : Loc nD τ sig) → Buf (Elt F) ℓ)

/-- The input as the pipeline stages it. -/
def xv (d : Dev nD) : Vec F S1536x1536 .f32 :=
  (win0_0.blk (0 : Fin 1)).view.read (Elt F) (m ((d : Thread nD τ).loc main_arg0))
def gv (d : Dev nD) : Vec F S1536x3072 .f32 := m ((d : Thread nD τ).loc main_arg1)
def uv (d : Dev nD) : Vec F S1536x3072 .f32 := m ((d : Thread nD τ).loc main_arg2)
def dv (d : Dev nD) : Vec F S3072x1536 .f32 := m ((d : Thread nD τ).loc main_arg3)

def xbv (d : Dev nD) : Vec F S1536x1536 .bf16 := k0_pay1 (xv m d)
def hv (d : Dev nD) : Vec F S1536x3072 .bf16 := hid (xbv m d) (gv m d) (uv m d)

/-- The neighbour that sends to `d` in direction `g`. -/
def from' (d : Dev nD) (g : Fin 2) : Dev nD := peer d (1 - g)

theorem peer_from (d : Dev nD) (g : Fin 2) : peer (from' d g) g = d := by revert d g; decide +kernel
theorem from_peer (d : Dev nD) (g : Fin 2) : from' (peer d g) g = d := by revert d g; decide +kernel
theorem peer_val (d : Dev nD) (g : Fin 2) : (peer d g).val = if g = 0 then (d.val + 1) % 4 else (d.val + 3) % 4 := by
  revert d g; decide +kernel
theorem dev1_eq (d : Dev nD) : (⟨k0_dev1 d, k0_dev1_lt d⟩ : Dev nD) = peer d 1 := by revert d; decide +kernel
theorem dev2_eq (d : Dev nD) : (⟨k0_dev2 d, k0_dev2_lt d⟩ : Dev nD) = peer d 0 := by revert d; decide +kernel

/-- Device `d`'s own contribution to the rows it works on at step `j`. -/
def partv (d : Dev nD) (g : Fin 2) (j : Fin 4) : Vec F S192x1536 .f32 :=
  if j = 0 then sum0 (hv m d) (dv m d) (blk d g j) else sum1 (hv m d) (dv m d) (blk d g j)

/-- An arriving block added to a sum. -/
def addIn (o : Vec F S192x1536 .f32) (c : Vec F S192x1536 .bf16) : Vec F S192x1536 .f32 :=
  addf (shapeCast S192x1536 o shapeCasts_S192x1536_S192x1536) (extf .f32 c bitsLt_bf16_f32)
theorem pay91_eq (o : Vec F S192x1536 .f32) (c : Vec F S1x192x1536 .bf16) :
    k0_pay91 o c = addIn o (shapeCast S192x1536 c shapeCasts_S1x192x1536_S192x1536) := rfl
/-- A sum narrowed for sending. -/
def nar (o : Vec F S192x1536 .f32) : Vec F S192x1536 .bf16 := k0_pay70 o
theorem pay141_eq (o : Vec F S192x1536 .f32) : k0_pay141 o = nar o := rfl
/-- A gathered block widened for the result. -/
def wid (c : Vec F S192x1536 .bf16) : Vec F S192x1536 .f32 := extf .f32 c bitsLt_bf16_f32
theorem pay142_eq (c : Vec F S1x192x1536 .bf16) :
    k0_pay142 c = wid (shapeCast S192x1536 c shapeCasts_S1x192x1536_S192x1536) := rfl

/-- The running sum at step `j`: own contribution and what the neighbour had at the step before. -/
def accAt (g : Fin 2) : (j : Nat) → j < 4 → Dev nD → Vec F S192x1536 .f32
  | 0, h, d => partv m d g 0
  | j + 1, h, d => addIn (partv m d g ⟨j + 1, h⟩) (nar (accAt g j (by omega) (from' d g)))
def accv (d : Dev nD) (g : Fin 2) (j : Fin 4) : Vec F S192x1536 .f32 := accAt m g j.val j.isLt d
/-- What device `d` sends at step `j`. -/
def sendv (d : Dev nD) (g : Fin 2) (j : Fin 3) : Vec F S192x1536 .bf16 := nar (accv m d g j.castSucc)

theorem accv_zero (d : Dev nD) (g : Fin 2) : accv m d g 0 = partv m d g 0 := rfl
theorem accv_succ (d : Dev nD) (g : Fin 2) (j : Fin 3) :
    accv m d g j.succ = addIn (partv m d g j.succ) (sendv m (from' d g) g j) := rfl

/-- What device `d` sends at hop `s` of the all-gather: its own block, then what arrived at the hop before. -/
def hopAt (g : Fin 2) : Nat → Dev nD → Vec F S192x1536 .bf16
  | 0, d => nar (accv m d g 3)
  | s + 1, d => hopAt g s (from' d g)
def hopv (d : Dev nD) (g : Fin 2) (s : Fin 3) : Vec F S192x1536 .bf16 := hopAt m g s.val d
theorem hopv_zero (d : Dev nD) (g : Fin 2) : hopv m d g 0 = nar (accv m d g 3) := rfl
theorem hopv_succ (d : Dev nD) (g : Fin 2) (s s' : Fin 3) (h : s'.val = s.val + 1) : hopv m d g s' = hopv m (from' d g) g s := by
  unfold hopv; rw [h]; rfl

/-- The result's rows of direction `g` and step `j`. -/
def resv (d : Dev nD) (g : Fin 2) (j : Fin 4) : Vec F S192x1536 .f32 :=
  if h : j.val < 3 then wid (hopv m (from' d g) g ⟨j.val, h⟩) else accv m d g 3
/-- The result. -/
def outv (d : Dev nD) : Vec F S1536x1536 .f32 := glue fun b => resv m d (dirOf b) (stepOf d b)

theorem glue_eq_outv (d : Dev nD) (G : Fin 8 → Vec F S192x1536 .f32) (h : ∀ g j, G (blk d g j) = resv m d g j) : glue G = outv m d := by
  unfold outv; congr 1; funext b
  rw [← h, blk_of]

end Cert.KernelIdeal.Ring
end
-- ==== Proof.KernelIdeal.Proto.lean ====
/-
The protocol between the devices.

Each device has one barrier cell and twenty-four cells its transfers to and from its neighbours credit: for each
direction `g` and step `j`, the sending and the receiving cell of the reduce-scatter and those of the all-gather.

* Barrier cell of `c`: two duties of one unit. Duty `g` is paid by `peer c g`, which hands `c` its own landing
  buffers of direction `g`: `c` writes there.
* Receiving cells of `c`: credited by the neighbour that sends to `c`, once; hands `c` the slot, with contents.
* Sending cells of `c`: credited by `c`'s own transfer, once; hands the source back.
-/
module

public import proofs.«01_k».proof.Proof.KernelIdeal.Vals

@[expose] public section

set_option maxRecDepth 16384

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 2)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
def EC : UEmb Counters (MT nD τ sig Unit (Elt F) ℕ UU ℕ) :=
  ((UEmb.inr : UEmb Counters (UB × Counters)).trans (UEmb.inr : UEmb (UB × Counters) UU)).trans
    (uEmb (nD := nD) (sig := sig) (Ix := Unit) (Val := Elt F) (Name := ℕ) (U := UU) (Lvl := ℕ))
instance EC_landsIn : (EC (F := F)).LandsIn (upEmb : UEmb _ 𝕄) := by unfold EC; infer_instance

/-! ## The cells -/

/-- A cell of a device: the barrier, or family (0 and 1 send and receive of the reduce-scatter, 2 and 3 of the
    all-gather), direction and step. -/
abbrev Key := Option (Fin 4 × Fin 2 × Fin 3)

def osem : Key → SemLoc sig
  | none => .reg barS
  | some (0, g, j) => .dma (rsS g j)
  | some (1, g, j) => .dma (rsR g j)
  | some (2, g, j) => .dma (agS g j)
  | some (3, g, j) => .dma (agR g j)

/-- The key of a semaphore. -/
def dec : SemLoc sig → Option Key
  | .reg s => if s = barS then some none else none
  | .dma s => if h : 8 ≤ s.val ∧ s.val < 32 then
      some (some (⟨(s.val - 8) / 6, by omega⟩, ⟨(s.val - 8) % 6 / 3, by omega⟩, ⟨(s.val - 8) % 3, by omega⟩)) else none

theorem dec_osem (k : Key) : dec (osem k) = some k := by revert k; decide +kernel
theorem osem_injective : Function.Injective osem := fun a b h => by
  have := congrArg dec h; rw [dec_osem, dec_osem] at this; exact Option.some.inj this

abbrev kcell (ck : Dev nD × Key) : GSem nD τ sig := ((ck.1 : Thread nD τ), osem ck.2)
theorem kcell_injective : Function.Injective kcell := fun a b h => by
  have h1 : a.1 = b.1 := congrArg (fun g : GSem nD τ sig => g.1.1) h
  have h2 : osem a.2 = osem b.2 := congrArg (fun g : GSem nD τ sig => g.2) h
  exact Prod.ext h1 (osem_injective h2)

/-- The credit of one block. -/
abbrev N : ℕ := (slotWin (commM 0) 0).view.dmaCredit
theorem N_pos : 0 < N := View.dmaCredit_pos _ (by decide)
theorem credit_comm (g : Fin 2) (j : Fin 3) : (slotWin (commM g) j).view.dmaCredit = N := by fin_cases g <;> fin_cases j <;> rfl
theorem credit_ag (g : Fin 2) (j : Fin 3) : (slotWin (agM g) j).view.dmaCredit = N := by fin_cases g <;> fin_cases j <;> rfl
theorem credit_sb (g : Fin 2) : (sbM g).view.dmaCredit = N := by fin_cases g <;> rfl
theorem credit_agSrc (g : Fin 2) (s : Fin 3) : (agSrc g s).view.dmaCredit = N := by fin_cases g <;> fin_cases s <;> rfl

/-! ## The schedule -/

variable (m : (ℓ : Loc nD τ sig) → Buf (Elt F) ℓ)

/-- The whole of a view, whatever it holds. -/
def anyOf (d : Dev nD) {sp : Space} {s : Shape} {e : EltTy} (M : Memref sig .tc sp s e) : sProp 𝕄 :=
  iprop(∃ f, M.view.loc (d : Thread nD τ) ↦[M.view.set]{fullShare} f)
/-- A view with what is read of it. -/
def ownsV (d : Dev nD) {sp : Space} {s : Shape} {e : EltTy} (M : Memref sig .tc sp s e) (q : PosShare TreeShare) (X : s.Idx → Elt F e) : sProp 𝕄 :=
  iprop(∃ f, ⌜M.view.read (Elt F) f = X⌝ ∗ (M.view.loc (d : Thread nD τ) ↦[M.view.set]{q} f))

omit [FloatOps F] in
instance anyOf_storable (d : Dev nD) {sp : Space} {s : Shape} {e : EltTy} (M : Memref sig .tc sp s e) :
    BI.Storable (upEmb : UEmb _ 𝕄) (anyOf (F := F) d M) := by unfold anyOf; infer_instance
omit [FloatOps F] in
instance ownsV_storable (d : Dev nD) {sp : Space} {s : Shape} {e : EltTy} (M : Memref sig .tc sp s e) (q : PosShare TreeShare) (X : s.Idx → Elt F e) :
    BI.Storable (upEmb : UEmb _ 𝕄) (ownsV (F := F) d M q X) := by unfold ownsV; infer_instance

/-- The three slots of a landing buffer. -/
def slots (d : Dev nD) (M : Memref sig .tc .vmem S3x192x1536 .bf16) : sProp 𝕄 :=
  iprop(anyOf d (slotWin M 0) ∗ anyOf d (slotWin M 1) ∗ anyOf d (slotWin M 2))
omit [FloatOps F] in
instance slots_storable (d : Dev nD) (M : Memref sig .tc .vmem S3x192x1536 .bf16) :
    BI.Storable (upEmb : UEmb _ 𝕄) (slots (F := F) d M) := by unfold slots; infer_instance

/-- The share of its source a transfer of the all-gather takes along. -/
def lent : Fin 3 → PosShare TreeShare
  | 0 => fullShare | 1 => fullShare.right | 2 => fullShare.right

def pay (c : Dev nD) : Key → Fin 2 → sProp 𝕄
  | none, g => iprop(slots (peer c g) (commM g) ∗ slots (peer c g) (agM g))
  | some (0, g, j), _ => anyOf c (sbM g)
  | some (1, g, j), _ => ownsV c (slotWin (commM g) j) fullShare (sendv m (from' c g) g j)
  | some (2, g, s), _ => ownsV c (agSrc g s) (lent s) (hopv m c g s)
  | some (3, g, s), _ => ownsV c (slotWin (agM g) s) fullShare (hopv m (from' c g) g s)

instance pay_storable (c : Dev nD) (k : Key) (i : Fin 2) : BI.Storable (upEmb : UEmb _ 𝕄) (pay m c k i) := by
  unfold pay; split <;> infer_instance

def amt : Key → ℕ
  | none => 1 | some _ => N
def dutiesK : Key → Finset (Fin 2)
  | none => Finset.univ | some _ => {0}

def ringRd : Rounds.Schedule (GSem nD τ sig) (Fin 2) 𝕄 where
  duties g r := if r = 0 ∧ g.1.2 = .tc then (dec g.2).elim ∅ dutiesK else ∅
  unitless _ := False
  amount g _ _ := (dec g.2).elim 1 amt
  payload g _ i := (dec g.2).elim iprop(emp) fun k => pay m g.1.1 k i
  amount_pos g _ _ _ := by
    cases h : dec g.2 with
    | none => exact Nat.one_pos
    | some k => cases k with
      | none => exact Nat.one_pos
      | some _ => exact N_pos

instance ringRd_payload_storable (g : GSem nD τ sig) (r : ℕ) (i : Fin 2) : BI.Storable (upEmb : UEmb _ 𝕄) ((ringRd m).payload g r i) := by
  show BI.Storable upEmb ((dec g.2).elim iprop(emp) fun k => pay m g.1.1 k i)
  cases dec g.2 <;> dsimp only [Option.elim] <;> infer_instance

section Sched
variable (c : Dev nD) (k : Key)

theorem duties_eq : (ringRd m).duties (kcell (c, k)) 0 = dutiesK k := by
  show (if (0 : ℕ) = 0 ∧ ((c : Thread nD τ)).2 = .tc then (dec (osem k)).elim ∅ dutiesK else ∅) = _
  rw [if_pos ⟨rfl, rfl⟩, dec_osem]; rfl
theorem duties_later (g : GSem nD τ sig) : ∀ r, 1 ≤ r → (ringRd m).duties g r = ∅ :=
  fun r hr => by dsimp only [ringRd]; exact if_neg fun h => by omega
theorem amount_eq (i : Fin 2) : (ringRd m).amount (kcell (c, k)) 0 i = amt k := by
  show (dec (osem k)).elim 1 amt = _
  rw [dec_osem]; rfl
theorem payload_eq (i : Fin 2) : (ringRd m).payload (kcell (c, k)) 0 i = pay m c k i := by
  show (dec (osem k)).elim iprop(emp) (fun k => pay m c k i) = _
  rw [dec_osem]; rfl
theorem expect_some (x) : (ringRd m).expect (kcell (c, some x)) 0 = N := by
  unfold Schedule.expect Schedule.amountOf
  rw [duties_eq]
  simp only [amount_eq]
  exact Finset.sum_singleton _ _
theorem expect_none : (ringRd m).expect (kcell (c, none)) 0 = 2 := by
  unfold Schedule.expect Schedule.amountOf
  rw [duties_eq]
  simp only [amount_eq]
  rfl
theorem rest_some (x) : bigSep ((ringRd m).duties (kcell (c, some x)) 0 \ ∅) (fun i => (ringRd m).payload (kcell (c, some x)) 0 i) = pay m c (some x) 0 := by
  rw [Finset.sdiff_empty, duties_eq]
  simp only [payload_eq]
  exact bigSep_singleton
theorem rest_none : bigSep ((ringRd m).duties (kcell (c, none)) 0 \ ∅) (fun i => (ringRd m).payload (kcell (c, none)) 0 i)
    = iprop(pay m c none 0 ∗ pay m c none 1) := by
  rw [Finset.sdiff_empty, duties_eq]
  simp only [payload_eq]
  show bigSep (Finset.univ : Finset (Fin 2)) _ = _
  rw [show (Finset.univ : Finset (Fin 2)) = insert 0 {1} from by decide, bigSep_insert (by decide), bigSep_singleton]
  rfl
end Sched

/-! ## Levels and what is owed -/

def lvK : Key → ℕ
  | none => 1
  | some (1, _, j) => 2 + j.val
  | some (3, _, s) => 5 + s.val
  | some _ => 0
def lvS (sm : SemLoc sig) : ℕ := (dec sm).elim 0 lvK
def L (g : GSem nD τ sig) : Finset Unit := if g.1.2 = .tc then {()} else ∅
def lv (g : GSem nD τ sig) (_ : Unit) : ℕ := lvS g.2
theorem L_of_ne (g : GSem nD τ sig) (h : g.1.2 ≠ .tc) : L g = ∅ := if_neg h
theorem L_tc (c : Dev nD) (sm : SemLoc sig) : L ((c : Thread nD τ), sm) = {()} := if_pos rfl
theorem lvS_osem (k : Key) : lvS (osem k) = lvK k := by unfold lvS; rw [dec_osem]; rfl

/-- What is still to be signalled or copied, cell by cell in the order of the program. -/
def owe : List (Dev nD × Key) → CellTallies nD τ sig Unit
  | [] => 0
  | ck :: l => owe l + tallyAt (kcell ck) () (amt ck.2)

theorem owe_pos {l : List (Dev nD × Key)} {g : GSem nD τ sig} {u : Unit} (h : 0 < owe l g u) : ∃ ck ∈ l, g = kcell ck := by
  induction l with
  | nil => exact absurd h (Nat.lt_irrefl 0)
  | cons ck l ih =>
    by_cases hg : g = kcell ck
    · exact ⟨ck, List.mem_cons_self, hg⟩
    · unfold owe at h
      rw [Pi.add_apply, Finsupp.add_apply, tallyAt_apply, if_neg (fun h' => hg h'.1), Nat.add_zero] at h
      obtain ⟨ck', h1, h2⟩ := ih h
      exact ⟨ck', List.mem_cons_of_mem _ h1, h2⟩

omit [FloatOps F] in
theorem mayWait (c : Dev nD) (sm : SemLoc sig) (l : List (Dev nD × Key)) (h : ∀ ck ∈ l, lvS sm < lvK ck.2) :
    (levAts L lv : sProp 𝕄) ⊢ MayWait (c : Thread nD τ) sm () (owe l) :=
  MayOwe.of_cut (L := L) (lev := lv) (lvS sm) (fun p hp => by rw [Finset.mem_singleton.mp hp, L_tc]; exact Finset.mem_singleton_self _)
    (fun g u hg => by obtain ⟨ck, _, rfl⟩ := owe_pos hg; exact Finset.mem_singleton_self _)
    (fun p hp => by rw [Finset.mem_singleton.mp hp]; exact le_refl _)
    (fun g u hg => by obtain ⟨ck, h1, rfl⟩ := owe_pos hg; exact (h ck h1).trans_eq (lvS_osem _).symm)

/-- The all-gather's transfers from hop `s` on. -/
def agL (d : Dev nD) (s : Fin 4) : List (Dev nD × Key) :=
  ((List.finRange 3).filter fun j => decide (s.val ≤ j.val)).flatMap fun j => [(peer d 0, some (3, 0, j)), (peer d 1, some (3, 1, j))]
/-- The reduce-scatter's transfers from step `j` on, then the all-gather's. -/
def rsL (d : Dev nD) (j : Fin 4) : List (Dev nD × Key) :=
  (((List.finRange 3).filter fun i => decide (j.val ≤ i.val)).flatMap fun i => [(peer d 0, some (1, 0, i)), (peer d 1, some (1, 1, i))]) ++ agL d 0
/-- Everything device `d` signals or copies elsewhere. -/
def allL (d : Dev nD) : List (Dev nD × Key) := (peer d 1, none) :: (peer d 0, none) :: rsL d 0

theorem agL_cons (d : Dev nD) (s : Fin 3) :
    agL d s.castSucc = (peer d 0, some (3, 0, s)) :: (peer d 1, some (3, 1, s)) :: agL d s.succ := by fin_cases s <;> rfl
theorem rsL_cons (d : Dev nD) (s : Fin 3) :
    rsL d s.castSucc = (peer d 0, some (1, 0, s)) :: (peer d 1, some (1, 1, s)) :: rsL d s.succ := by fin_cases s <;> rfl
theorem rsL_last (d : Dev nD) : rsL d 3 = agL d 0 := rfl
theorem agL_last (d : Dev nD) : agL d 3 = [] := rfl

theorem lv_agL (d : Dev nD) (s : Fin 4) : ∀ ck ∈ agL d s, 5 + s.val ≤ lvK ck.2 := by revert d s; decide +kernel
theorem lv_rsL (d : Dev nD) (j : Fin 4) : ∀ ck ∈ rsL d j, 2 + j.val ≤ lvK ck.2 := by revert d j; decide +kernel
theorem lv_allL (d : Dev nD) : ∀ ck ∈ allL d, 1 ≤ lvK ck.2 := by revert d; decide +kernel

/-! ## What a device keeps -/

/-- Every cell's invariant, and that it is at round 0. -/
def records (κ : Dev nD × Key → ℕ) : sProp 𝕄 :=
  bigSep Finset.univ fun ck => iprop(cellInv ER (ringRd m) (κ ck) (kcell ck) ∗ reached ER (kcell ck) 0)
instance records_persistent (κ : Dev nD × Key → ℕ) : BI.Persistent (records m κ) := by unfold records; infer_instance

theorem inv_at (κ : Dev nD × Key → ℕ) (ck : Dev nD × Key) : records m κ ⊢ cellInv ER (ringRd m) (κ ck) (kcell ck) := by
  unfold records
  have h : (bigSep Finset.univ fun ck => iprop(cellInv ER (ringRd m) (κ ck) (kcell ck) ∗ reached ER (kcell ck) 0))
      ⊢ (iprop(cellInv ER (ringRd m) (κ ck) (kcell ck) ∗ reached ER (kcell ck) 0) : sProp 𝕄) := bigSep_elim (Finset.mem_univ ck)
  iintro H
  ihave H := h $$ H
  icases H with ⟨H, -⟩; iexact H
theorem reached_at (κ : Dev nD × Key → ℕ) (ck : Dev nD × Key) : records m κ ⊢ reached ER (kcell ck) 0 := by
  unfold records
  have h : (bigSep Finset.univ fun ck => iprop(cellInv ER (ringRd m) (κ ck) (kcell ck) ∗ reached ER (kcell ck) 0))
      ⊢ (iprop(cellInv ER (ringRd m) (κ ck) (kcell ck) ∗ reached ER (kcell ck) 0) : sProp 𝕄) := bigSep_elim (Finset.mem_univ ck)
  iintro H
  ihave H := h $$ H
  icases H with ⟨-, H⟩; iexact H

/-- What device `d` still owes, with the levels. -/
def Ow (d : Dev nD) (l : List (Dev nD × Key)) : sProp 𝕄 := iprop(levAts L lv ∗ ∃ W, owes (d : Thread nD τ) (owe l) W)

end Cert.KernelIdeal.Ring
end
-- ==== Proof.KernelIdeal.Steps.lean ====
/-
The operations of the body, one by one, over the protocol: loads and stores, local copies out of an argument,
signals, transfers to a neighbour and the waits.
-/
module

public import proofs.«01_k».proof.Proof.KernelIdeal.Proto

@[expose] public section

set_option maxRecDepth 16384

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of the body on device `d`. -/
abbrev WP (d : Dev nD) {α : Type} (e : Prog (TpuEff nD τ sig (Elt F) Λ₀ .tc) α) (Q : α → sProp 𝕄) : sProp 𝕄 :=
  wp frame (wpE (defs₀ (F := F)) 𝒱₀ (d : Thread nD τ) none) Set.univ e Q

theorem WP_bind (d : Dev nD) {α β : Type} (e : Prog (TpuEff nD τ sig (Elt F) Λ₀ .tc) α) (k : α → Prog (TpuEff nD τ sig (Elt F) Λ₀ .tc) β)
    (Q : β → sProp 𝕄) : WP d (e >>= k) Q = WP d e fun a => WP d (k a) Q := wp_bind _ _ _ _ _ _
theorem WP_pure (d : Dev nD) {α : Type} (a : α) (Q : α → sProp 𝕄) :
    WP d (pure a : Prog (TpuEff nD τ sig (Elt F) Λ₀ .tc) α) Q = iprop(|={Set.univ}[frame]=> Q a) := rfl

/-- From `P` the piece `e` runs and leaves `Q`. -/
def Tri (d : Dev nD) (P : sProp 𝕄) (e : Body F) (Q : sProp 𝕄) : Prop :=
  ∀ K : PUnit → sProp 𝕄, iprop(P ∗ (Q -∗ K ⟨⟩)) ⊢ WP d e K

theorem Tri.seq {d : Dev nD} {P Q R : sProp 𝕄} {e₁ : Body F} {e₂ : PUnit → Body F} (h₁ : Tri d P e₁ Q) (h₂ : Tri d Q (e₂ ⟨⟩) R) :
    Tri d P (e₁ >>= e₂) R := fun K => by
  rw [WP_bind]
  iintro ⟨HP, HK⟩
  iapply (h₁ fun a => WP d (e₂ a) K)
  isplitl [HP]; · iexact HP
  iintro HQ
  iapply (h₂ K)
  isplitl [HQ]; · iexact HQ
  iexact HK

theorem Tri.frame {d : Dev nD} {P Q : sProp 𝕄} {e : Body F} (h : Tri d P e Q) (R : sProp 𝕄) :
    Tri d iprop(P ∗ R) e iprop(Q ∗ R) := fun K => by
  iintro ⟨⟨HP, HR⟩, HK⟩
  iapply (h K)
  isplitl [HP]; · iexact HP
  iintro HQ
  iapply HK
  isplitl [HQ]; · iexact HQ
  iexact HR

theorem Tri.cons {d : Dev nD} {P P' Q Q' : sProp 𝕄} {e : Body F} (h : Tri d P e Q) (hP : P' ⊢ P) (hQ : Q ⊢ Q') :
    Tri d P' e Q' := fun K => by
  iintro ⟨HP, HK⟩
  iapply (h K)
  isplitl [HP]; · iapply hP $$ HP
  iintro HQ
  iapply HK
  iapply hQ $$ HQ

theorem Tri.skip {d : Dev nD} {P : sProp 𝕄} : Tri d P (pure ⟨⟩ : Body F) P := fun K => by
  rw [WP_pure]
  iintro ⟨HP, HK⟩
  imodintro
  iapply HK $$ HP

/-- A loop, by an invariant. -/
theorem Tri.loop {d : Dev nD} {n : ℕ} {f : Fin n → Body F} (I : ℕ → sProp 𝕄) (h : ∀ t : Fin n, Tri d (I t.val) (f t) (I (t.val + 1))) :
    ∀ k t, t + k ≤ n → Tri d (I t) (loop f k t) (I (t + k))
  | 0, t, _ => Tri.skip
  | k + 1, t, ht => by
    have hlt : t < n := by omega
    unfold Ring.loop
    rw [dif_pos hlt]
    refine Tri.seq (h ⟨t, hlt⟩) ?_
    have := Tri.loop I h k (t + 1) (by omega)
    rwa [show t + 1 + k = t + (k + 1) by omega] at this

/-! ## Loads and stores -/

variable (d : Dev nD)

theorem ld_spec {sp : CoreSpace} {s : Shape} {e : EltTy} {M : Memref sig .tc sp s e} {r : LoadRect s} {hl : M.view.LoadsAt r}
    {S : Finset (Idx (M.view.loc (d : Thread nD τ)))} {q : PosShare TreeShare} {f : Buf (Elt F) (M.view.loc (d : Thread nD τ))}
    (hS : M.view.setOn r.set ⊆ S) (K : (r.shape.Idx → Elt F e) → sProp 𝕄) :
    iprop((M.view.loc (d : Thread nD τ) ↦[S]{q} f) ∗ ((M.view.loc (d : Thread nD τ) ↦[S]{q} f) -∗ K (M.view.readAt (Elt F) r f)))
      ⊢ WP d (Prog.lift (.load M r hl)) K := by
  iintro ⟨H, HK⟩
  iapply (wp_load 𝒱₀ (d : Thread nD τ) none Set.univ hS) $$ H
  iintro H
  rw [wp_ret]
  imodintro
  iapply HK $$ H

theorem st_spec {sp : CoreSpace} {s : Shape} {e : EltTy} {M : Memref sig .tc sp s e} {r : Rect s} {w : r.shape.Idx → Elt F e}
    {Mk : Finset r.shape.Idx} {hx : (M.access r).Stores Mk} {hm : Mk = Finset.univ ∨ ∀ a : Fin s.rank, r.stride a = 1}
    {S : Finset (Idx ((M.access r).loc (d : Thread nD τ)))} {f : Buf (Elt F) ((M.access r).loc (d : Thread nD τ))}
    (hS : (M.access r).setOn Mk ⊆ S) (K : PUnit → sProp 𝕄) :
    iprop(((M.access r).loc (d : Thread nD τ) ↦[S]{fullShare} f)
        ∗ (((M.access r).loc (d : Thread nD τ) ↦[S]{fullShare} ((M.access r).write (Elt F) f w Mk)) -∗ K ⟨⟩))
      ⊢ WP d (Prog.lift (.store M r w Mk hx hm)) K := by
  iintro ⟨H, HK⟩
  iapply (wp_store 𝒱₀ (d : Thread nD τ) none Set.univ hS) $$ H
  iintro H
  rw [wp_ret]
  imodintro
  iapply HK $$ H

/-! ## Local copies -/

section Copy
variable {s : Shape} (src : Memref sig .tc .hbm s .f32) (dst : Memref sig .tc .vmem s .f32)
  (S : Finset (Idx (dst.view.loc (d : Thread nD τ)))) (sm : DmaSem sig) (q : PosShare TreeShare)
  (A : Finset (Idx (src.view.loc (d : Thread nD τ)))) (fa : Buf (Elt F) (src.view.loc (d : Thread nD τ)))

/-- The slot is free, its semaphore at zero, and the argument's share at hand. -/
def Idle : sProp 𝕄 :=
  iprop((∃ g, dst.view.loc (d : Thread nD τ) ↦[S]{fullShare} g) ∗ semVal ((d : Thread nD τ), SemLoc.dma sm) 0
    ∗ (src.view.loc (d : Thread nD τ) ↦[A]{q} fa))
/-- A copy of the window into the slot is in flight. -/
def Busy (v : s.Idx → Elt F .f32) : sProp 𝕄 :=
  iprop(Transfers.Flight EC (d : Thread nD τ) (SemLoc.dma sm) () dst.view.dmaCredit
      iprop((∃ g, ⌜dst.view.read (Elt F) g = v⌝ ∗ (dst.view.loc (d : Thread nD τ) ↦[S]{fullShare} g)) ∗ (src.view.loc (d : Thread nD τ) ↦[src.view.set]{q} fa))
    ∗ (src.view.loc (d : Thread nD τ) ↦[A \ src.view.set]{q} fa))
/-- The slot holds the window. -/
def Here (v : s.Idx → Elt F .f32) : sProp 𝕄 :=
  iprop((∃ g, ⌜dst.view.read (Elt F) g = v⌝ ∗ (dst.view.loc (d : Thread nD τ) ↦[S]{fullShare} g)) ∗ semVal ((d : Thread nD τ), SemLoc.dma sm) 0
    ∗ (src.view.loc (d : Thread nD τ) ↦[A]{q} fa))

theorem here_idle (v : s.Idx → Elt F .f32) : Here d src dst S sm q A fa v ⊢ Idle d src dst S sm q A fa := by
  unfold Here Idle
  iintro ⟨⟨%g, -, H⟩, Hr⟩
  isplitl [H]; · iexists g; iexact H
  iexact Hr

theorem cp_spec {h1 h2} (h0 : 0 < s.numel) (hS : dst.view.set ⊆ S) (hA : src.view.set ⊆ A) (v : s.Idx → Elt F .f32)
    (hv : src.view.read (Elt F) fa = v) :
    Tri d (Idle d src dst S sm q A fa) (cpL src dst sm h1 h2) (Busy d src dst S sm q A fa v) := fun K => by
  unfold Idle Busy
  iintro ⟨⟨⟨%g, Hd⟩, Hv, Hs⟩, HK⟩
  ihave Hs := (pointsTo_split_subset hA).1 $$ Hs
  icases Hs with ⟨Hs, Hrest⟩
  iapply (Transfers.wp_dmaLocal EC 𝒱₀ (d : Thread nD τ) none (sm := SemLoc.dma sm) () dst.view.dmaCredit rfl (View.dmaCredit_pos _ h0) hS) $$ [Hs Hd Hv]
  · isplitl [Hs]; · iexact Hs
    isplitl [Hd]; · iexact Hd
    iexact Hv
  iintro HF
  rw [wp_ret]
  imodintro
  iapply HK
  isplitl [HF]
  · iapply (Transfers.Flight_mono EC ?_) $$ HF
    iintro ⟨Hd, Hs⟩
    isplitl [Hd]
    · iexists _
      isplitr
      rotate_left
      · iexact Hd
      · ipureintro
        rw [View.read_write_univ]
        exact hv
    iexact Hs
  iexact Hrest

theorem wtl_spec {h1 h2} (hA : src.view.set ⊆ A) (v : s.Idx → Elt F .f32) (l : List (Dev nD × Key))
    (hl : ∀ ck ∈ l, lvS (SemLoc.dma sm) < lvK ck.2) :
    Tri d iprop(Busy d src dst S sm q A fa v ∗ Ow (F := F) d l) (wtL src dst sm h1 h2) iprop(Here d src dst S sm q A fa v ∗ Ow d l) := fun K => by
  unfold Busy Here Ow
  iintro ⟨⟨⟨HF, Hrest⟩, ⟨#Hl, %W, HO⟩⟩, HK⟩
  iapply (Transfers.wp_waitLocalO EC 𝒱₀ (d : Thread nD τ) none (sem := sm) () rfl (O := owe l) (W := W)) $$ [HF HO]
  · isplitl [HF]; · iexact HF
    isplitl [HO]; · iexact HO
    iapply (mayWait d (SemLoc.dma sm) l hl); iexact Hl
  iintro ⟨⟨Hd, Hs⟩, Hv, HO⟩
  rw [wp_ret]
  imodintro
  iapply HK
  isplitl [Hd Hs Hrest Hv]
  · isplitl [Hd]; · iexact Hd
    isplitl [Hv]; · iexact Hv
    iapply (pointsTo_split_subset hA).2
    isplitl [Hs]; · iexact Hs
    iexact Hrest
  isplitr; · iexact Hl
  iexists _; iexact HO

end Copy

/-! ## Signals, transfers and waits -/

variable (m : (ℓ : Loc nD τ sig) → Buf (Elt F) ℓ) (κ : Dev nD × Key → ℕ)

theorem sig_spec (p : Dev nD) (g : Fin 2) (l : List (Dev nD × Key)) :
    Tri d iprop(records m κ ∗ Ow d ((p, none) :: l) ∗ dutyTok ER (kcell (p, none)) 0 g ∗ pay m p none g)
      (semSignalWord p barS 1#32) (Ow d l) := fun K => by
  simp only [semSignalWord, Prog.lift, Prog.bind_op, Prog.bind_ret, Prog.pure_eq_ret]
  unfold Ow
  iintro ⟨⟨#HR, ⟨#Hl, %W, HO⟩, Ht, Hp⟩, HK⟩
  iapply (Rounds.wp_signal 𝒱₀ ER (ringRd m) (d : Thread nD τ) none (dst := (p : Thread nD τ)) (κ := κ (p, none)) (r := 0) (d := g)
      (by rw [show ((p : Thread nD τ), SemLoc.reg barS) = kcell (p, none) from rfl, duties_eq]; exact Finset.mem_univ _)
      ((amount_eq m p none g).trans (by decide)) () (owe l) (by rfl) (W := W)) $$ [HO Ht Hp]
  · isplitr; · iapply (inv_at m κ (p, none)); iexact HR
    isplitl [HO]; · iexact HO
    isplitl [Ht]; · iexact Ht
    isplitl [Hp]
    · rw [show ((p : Thread nD τ), SemLoc.reg barS) = kcell (p, none) from rfl, payload_eq]; iexact Hp
    iapply (reached_at m κ (p, none)); iexact HR
  iintro HO
  rw [wp_ret]
  imodintro
  iapply HK
  isplitr; · iexact Hl
  iexists W; iexact HO

theorem bar_spec (l : List (Dev nD × Key)) (hl : ∀ ck ∈ l, lvK none < lvK ck.2) :
    Tri d iprop(records m κ ∗ Ow d l ∗ cred (tallyAt (kcell (d, none)) () 2) ∗ atPos ER (kcell (d, none)) 0 ∅ 0)
      (semWaitWord barS 2#32) iprop(Ow d l ∗ (pay m d none 0 ∗ pay m d none 1) ∗ semVal (kcell (d, none)) 0) := fun K => by
  simp only [semWaitWord, Prog.lift, Prog.bind_op, Prog.bind_ret, Prog.pure_eq_ret]
  unfold Ow
  iintro ⟨⟨#HR, ⟨#Hl, %W, HO⟩, Hc, Ha⟩, HK⟩
  ihave #HI := (inv_at m κ (d, none)) $$ HR
  iapply (Rounds.wp_wait_rest_token 𝒱₀ ER (ringRd m) (d : Thread nD τ) none (κ := κ (d, none))
      (wpE_semWait_eq 𝒱₀ (d : Thread nD τ) none Set.univ) (Set.mem_univ _) () (O := owe l) (W := W) (R := 0) (m := 0) (T := ∅)
      (by rw [show ((d : Thread nD τ), SemLoc.reg barS) = kcell (d, none) from rfl, expect_none]; decide)) $$ [Hc HO Ha]
  · isplitr; · iexact HI
    isplitl [Hc]; · iexact Hc
    isplitl [HO]; · iexact HO
    isplitr; · iapply (mayWait d (SemLoc.reg barS) l (fun ck h => (lvS_osem none).trans_lt (hl ck h))); iexact Hl
    iexact Ha
  iintro ⟨HO, Ha, -, Hp⟩
  have hr : bigSep ((ringRd m).duties ((d : Thread nD τ), SemLoc.reg barS) 0 \ ∅) (fun i => (ringRd m).payload ((d : Thread nD τ), SemLoc.reg barS) 0 i)
    = iprop(pay m d none 0 ∗ pay m d none 1) := rest_none m d
  ihave Hp := (Entails.of_eq hr) $$ Hp
  imod (Rounds.cell_close ER (ringRd m) (Set.mem_univ (κ (d, none))) (fun h => h) (R := 0 + 1) (duties_later m (kcell (d, none)))) $$ [Ha] with Hz
  · isplitr; · iexact HI
    iexact Ha
  rw [wp_ret]
  imodintro
  iapply HK
  isplitl [HO]
  · isplitr; · iexact Hl
    iexists _; iexact HO
  isplitl [Hp]; · iexact Hp
  iexact Hz

theorem wt_spec (x : Fin 4 × Fin 2 × Fin 3) (q : DmaSem sig) (hq : osem (some x) = .dma q) (src dst : Memref sig .tc .vmem S192x1536 .bf16) {h1 h2}
    (hN : dst.view.dmaCredit = N) (l : List (Dev nD × Key)) (hl : ∀ ck ∈ l, lvK (some x) < lvK ck.2) :
    Tri d iprop(records m κ ∗ Ow d l ∗ cred (tallyAt (kcell (d, some x)) () N) ∗ atPos ER (kcell (d, some x)) 0 ∅ 0)
      (wt q src dst h1 h2) iprop(Ow d l ∗ pay m d (some x) 0 ∗ semVal (kcell (d, some x)) 0) := fun K => by
  have e : kcell (d, some x) = ((d : Thread nD τ), SemLoc.dma q) := by show ((d : Thread nD τ), osem (some x)) = _; rw [hq]
  unfold Ow
  iintro ⟨⟨#HR, ⟨#Hl, %W, HO⟩, Hc, Ha⟩, HK⟩
  ihave #HI := (inv_at m κ (d, some x)) $$ HR
  have hr := rest_some m d x
  have hd := duties_later m (kcell (d, some x))
  rw [e] at hr hd
  rw [e]
  iapply (Rounds.wp_wait_rest_token 𝒱₀ ER (ringRd m) (d : Thread nD τ) none (κ := κ (d, some x))
      (wpE_waitDma2_eq 𝒱₀ (d : Thread nD τ) none Set.univ) (Set.mem_univ _) () (O := owe l) (W := W) (R := 0) (m := 0) (T := ∅)
      (by rw [← e, expect_some, hN, Nat.zero_add])) $$ [Hc HO Ha]
  · isplitr; · iexact HI
    isplitl [Hc]; · rw [hN]; iexact Hc
    isplitl [HO]; · iexact HO
    isplitr; · iapply (mayWait d (SemLoc.dma q) l (fun ck h => by rw [← hq, lvS_osem]; exact hl ck h)); iexact Hl
    iexact Ha
  iintro ⟨HO, Ha, -, Hp⟩
  ihave Hp := (Entails.of_eq hr) $$ Hp
  imod (Rounds.cell_close ER (ringRd m) (Set.mem_univ (κ (d, some x))) (fun h => h) (R := 0 + 1) hd) $$ [Ha] with Hz
  · isplitr; · iexact HI
    iexact Ha
  rw [wp_ret]
  imodintro
  iapply HK
  isplitl [HO]
  · isplitr; · iexact Hl
    iexists _; iexact HO
  isplitl [Hp]; · iexact Hp
  iexact Hz

theorem snd_spec (p : Dev nD) (x y : Fin 4 × Fin 2 × Fin 3) (qs qr : DmaSem sig) (hs : osem (some x) = .dma qs) (hr : osem (some y) = .dma qr)
    (src dst : Memref sig .tc .vmem S192x1536 .bf16) {h1 h2} (hN : dst.view.dmaCredit = N) (q : PosShare TreeShare) (X : S192x1536.Idx → Elt F .bf16)
    (hp : ownsV d src q X ⊢ pay m d (some x) 0) (hp' : ownsV p dst fullShare X ⊢ pay m p (some y) 0) (l : List (Dev nD × Key)) :
    Tri d iprop(records m κ ∗ Ow d ((p, some y) :: l) ∗ ownsV d src q X ∗ anyOf p dst
        ∗ dutyTok ER (kcell (d, some x)) 0 0 ∗ dutyTok ER (kcell (p, some y)) 0 0)
      (snd p src dst qs qr h1 h2) iprop(Ow d l ∗ cred (tallyAt (kcell (d, some x)) () N)) := fun K => by
  have es : kcell (d, some x) = ((d : Thread nD τ), SemLoc.dma qs) := by show ((d : Thread nD τ), osem (some x)) = _; rw [hs]
  have er : kcell (p, some y) = ((p : Thread nD τ), SemLoc.dma qr) := by show ((p : Thread nD τ), osem (some y)) = _; rw [hr]
  unfold Ow
  have hown : ownsV d src q X = iprop(∃ f, ⌜src.view.read (Elt F) f = X⌝ ∗ (src.view.loc (d : Thread nD τ) ↦[src.view.set]{q} f)) := rfl
  have hany : anyOf (F := F) p dst = iprop(∃ f, dst.view.loc (p : Thread nD τ) ↦[dst.view.set]{fullShare} f) := rfl
  rw [hown, hany]
  iintro ⟨⟨#HR, ⟨#Hl, %W, HO⟩, ⟨%fs, %hX, Hs⟩, ⟨%fd, Hd⟩, Ht, Ht'⟩, HK⟩
  ihave #HI := (inv_at m κ (d, some x)) $$ HR
  ihave #HI' := (inv_at m κ (p, some y)) $$ HR
  ihave #Hre := (reached_at m κ (d, some x)) $$ HR
  ihave #Hre' := (reached_at m κ (p, some y)) $$ HR
  have hd₁ : (0 : Fin 2) ∈ (ringRd m).duties (kcell (d, some x)) 0 := by rw [duties_eq]; exact Finset.mem_singleton_self _
  have hd₂ : (0 : Fin 2) ∈ (ringRd m).duties (kcell (p, some y)) 0 := by rw [duties_eq]; exact Finset.mem_singleton_self _
  have ha₁ := amount_eq m d (some x) 0
  have ha₂ := amount_eq m p (some y) 0
  have hy₁ : (src.view.loc (d : Thread nD τ) ↦[src.view.set]{q} fs) ⊢ (ringRd m).payload (kcell (d, some x)) 0 0 := by
    rw [payload_eq]
    refine BIBase.Entails.trans ?_ hp
    unfold ownsV
    iintro H
    iexists fs
    isplitr; · ipureintro; exact hX
    iexact H
  have hy₂ : (dst.view.loc (p : Thread nD τ) ↦[dst.view.set]{fullShare} (dst.view.write (Elt F) fd (src.view.read (Elt F) fs) Finset.univ))
      ⊢ (ringRd m).payload (kcell (p, some y)) 0 0 := by
    rw [payload_eq]
    refine BIBase.Entails.trans ?_ hp'
    unfold ownsV
    iintro H
    iexists _
    isplitr
    rotate_left
    · iexact H
    · ipureintro; rw [View.read_write_univ]; exact hX
  have hO : owe ((p, some y) :: l) = owe l + tallyAt (kcell (p, some y)) () N := rfl
  rw [es] at hd₁ ha₁ hy₁
  rw [er] at hd₂ ha₂ hy₂ hO
  rw [es, er]
  iapply (Rounds.wp_send_pointsTo 𝒱₀ ER (ringRd m) (d : Thread nD τ) none (κ₁ := κ (d, some x)) (κ₂ := κ (p, some y)) (r₁ := 0) (r₂ := 0)
      (d₁ := 0) (d₂ := 0) (fd := fd) hd₁ hd₂ () () N hN ha₁ ha₂ (owe l) hO hy₁ hy₂ (W := W)) $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hre
    isplitl [Ht']; · iexact Ht'
    iexact Hre'
  iintro ⟨Hc, HO⟩
  rw [wp_ret]
  imodintro
  iapply HK
  isplitl [HO]
  · isplitr; · iexact Hl
    iexists W; iexact HO
  iexact Hc

end Cert.KernelIdeal.Ring
end
-- ==== Proof.KernelIdeal.Access.lean ====
/-
The loads and stores of the body at the kernel's own buffers, and the slots of the weights.
-/
module

public import proofs.«01_k».proof.Proof.KernelIdeal.Steps

@[expose] public section

set_option maxRecDepth 16384

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- From `P` the piece `e` returns `v` and leaves `Q`. -/
def Ret (d : Dev nD) {α : Type} (P : sProp 𝕄) (e : Prog (TpuEff nD τ sig (Elt F) Λ₀ .tc) α) (Q : sProp 𝕄) (v : α) : Prop :=
  ∀ K : α → sProp 𝕄, iprop(P ∗ (Q -∗ K v)) ⊢ WP d e K

theorem Ret.bind {d : Dev nD} {α β : Type} {P Q : sProp 𝕄} {e : Prog (TpuEff nD τ sig (Elt F) Λ₀ .tc) α} {v : α} (h : Ret d P e Q v)
    (k : α → Prog (TpuEff nD τ sig (Elt F) Λ₀ .tc) β) (K : β → sProp 𝕄) :
    iprop(P ∗ (Q -∗ WP d (k v) K)) ⊢ WP d (e >>= k) K := by
  rw [WP_bind]; exact h fun a => WP d (k a) K
theorem Tri.bind {d : Dev nD} {β : Type} {P Q : sProp 𝕄} {e : Body F} (h : Tri d P e Q)
    (k : PUnit → Prog (TpuEff nD τ sig (Elt F) Λ₀ .tc) β) (K : β → sProp 𝕄) :
    iprop(P ∗ (Q -∗ WP d (k ⟨⟩) K)) ⊢ WP d (e >>= k) K := by
  rw [WP_bind]; exact h fun a => WP d (k a) K

variable (d : Dev nD)

/-! ## The accumulator -/

def Out (G : Fin 8 → Vec F S192x1536 .f32) : sProp 𝕄 := ((d : Thread nD τ).loc cc0_stg1_0) ↦{fullShare} (glue G)

theorem ldO_spec (G : Fin 8 → Vec F S192x1536 .f32) (g : Fin 2) (j : Fin 4) : Ret d (Out d G) (ldO d g j) (Out d G) (G (blk d g j)) := fun K => by
  rw [← glue_read G (blk d g j) (oOff_eq d g j) (inb := oOff_inb d g j)]
  exact ld_spec (F := F) d (M := oM) (r := (Rect.unit (s := S1536x1536) (oOff d g j) S192x1536.size (oOff_inb d g j)).toLoadRect) (q := fullShare) (f := glue G) (S := Finset.univ) (Finset.subset_univ _) K
theorem ldOwn_spec (G : Fin 8 → Vec F S192x1536 .f32) (g : Fin 2) : Ret d (Out d G) (ldOwn d g) (Out d G) (G (blk d g 3)) := fun K => by
  rw [← glue_read G (blk d g 3) (ownOff_eq d g) (inb := ownOff_inb d g)]
  exact ld_spec (F := F) d (M := oM) (r := (Rect.unit (s := S1536x1536) (ownOff d g) S192x1536.size (ownOff_inb d g)).toLoadRect) (q := fullShare) (f := glue G) (S := Finset.univ) (Finset.subset_univ _) K
theorem stO_spec (G : Fin 8 → Vec F S192x1536 .f32) (g : Fin 2) (j : Fin 4) (w : Vec F S192x1536 .f32) :
    Tri d (Out d G) (stO d g j w) (Out d (Function.update G (blk d g j) w)) := fun K => by
  unfold Out
  rw [← glue_write G (blk d g j) (oOff_eq d g j) (inb := oOff_inb d g j) w]
  exact st_spec (F := F) d (M := oM) (r := (Rect.unit (s := S1536x1536) (oOff d g j) S192x1536.size (oOff_inb d g j))) (w := w) (Mk := Finset.univ) (f := glue G) (S := Finset.univ) (Finset.subset_univ _) K

/-! ## The hidden rows and the narrowed input -/

def Hb (f : Vec F S1536x3072 .bf16) : sProp 𝕄 := ((d : Thread nD τ).loc cc0_scratch3) ↦{fullShare} f
def Xb (f : Vec F S1536x1536 .bf16) : sProp 𝕄 := ((d : Thread nD τ).loc cc0_scratch4) ↦{fullShare} f
/-- The hidden rows as far as they are written. -/
def Hid (H : Vec F S1536x3072 .bf16) (t k : ℕ) : sProp 𝕄 := iprop(∃ f, ⌜HInv H t k f⌝ ∗ Hb d f)

theorem ldXb_spec (f : Vec F S1536x1536 .bf16) (r : Fin 2) : Ret d (Xb d f) (ldXb r) (Xb d f) (xRows f r) := fun K =>
  ld_spec (F := F) d (M := xbM) (r := (Rect.unit (s := S1536x1536) ![768 * r.val, 0] S768x1536.size (inbXb r)).toLoadRect) (q := fullShare) (f := f) (S := Finset.univ) (Finset.subset_univ _) K

theorem ldHt_stHt (xb : Vec F S1536x1536 .bf16) (G U : Vec F S1536x3072 .f32) (r : Fin 2) (t : Fin 12) {w : Vec F S768x256 .bf16}
    (hw : w = hT (xRows xb r) (cols G t) (cols U t)) :
    Tri d (Hid d (hid xb G U) t.val r.val) (do let _ ← ldHt (F := F) r t; stHt r t w) (Hid d (hid xb G U) t.val (r.val + 1)) := fun K => by
  subst hw
  unfold Hid Hb
  iintro ⟨⟨%f, %hf, H⟩, HK⟩
  rw [WP_bind]
  iapply (ld_spec (F := F) d (M := hM) (r := (Rect.unit (s := S1536x3072) ![768 * r.val, 256 * t.val] S768x256.size (inbH r t)).toLoadRect) (q := fullShare) (f := f) (S := Finset.univ) (Finset.subset_univ _) (fun _ => WP d (stHt r t (hT (xRows xb r) (cols G t) (cols U t))) K))
  isplitl [H]; · iexact H
  iintro H
  iapply (st_spec (F := F) d (M := hM) (r := (Rect.unit (s := S1536x3072) ![768 * r.val, 256 * t.val] S768x256.size (inbH r t))) (w := hT (xRows xb r) (cols G t) (cols U t)) (Mk := Finset.univ) (f := f) (S := Finset.univ) (Finset.subset_univ _) K)
  isplitl [H]; · iexact H
  iintro H
  iapply HK
  iexists _
  isplitr
  rotate_left
  · iexact H
  · ipureintro; exact HInv_write xb G U r t hf rfl

theorem ldH_spec {H f : Vec F S1536x3072 .bf16} (g : Fin 2) (t : Fin 12) (hf : HInv H t.val 2 f) :
    Ret d (Hb d f) (ldH d g t) (Hb d f) (hRows H (blk d g 0) t) := fun K => by
  rw [← hRows_read (blk d g 0) t (hOff0_eq d g t) (inb := hOff0_inb d g t) hf]
  exact ld_spec (F := F) d (M := hM) (r := (Rect.unit (s := S1536x3072) (hOff0 d g t) S192x256.size (hOff0_inb d g t)).toLoadRect) (q := fullShare) (f := f) (S := Finset.univ) (Finset.subset_univ _) K
theorem ldH5_spec (H : Vec F S1536x3072 .bf16) (g : Fin 2) (m : Fin 3) (t : Fin 6) :
    Ret d (Hb d H) (ldH5 d g m t) (Hb d H) (hRows5 H (blk d g m.succ) t) := fun K => by
  rw [← hRows5_read H (blk d g m.succ) t (hOff1_eq d g m t) (inb := hOff1_inb d g m t)]
  exact ld_spec (F := F) d (M := hM) (r := (Rect.unit (s := S1536x3072) (hOff1 d g m t) S192x512.size (hOff1_inb d g m t)).toLoadRect) (q := fullShare) (f := H) (S := Finset.univ) (Finset.subset_univ _) K

/-! ## The weights -/

/-- The half of an argument's share that goes with a slot. -/
def half : Fin 2 → PosShare TreeShare
  | 0 => fullShare.left | 1 => fullShare.right

theorem wd_sub (s : Fin 2) : (wdWin s).view.set ⊆ (wdWin5 s).view.set := by
  rw [View.set_reshape, View.set_reshape]
  simp only [View.set_slice_whole]
  intro i hi
  rw [Rect.mem_set_unit] at hi ⊢
  intro a
  have hle : ∀ a, S1x256x1536.size a ≤ S1x512x1536.size a := by decide
  exact ⟨(hi a).1, lt_of_lt_of_le (hi a).2 (Nat.add_le_add_left (hle a) _)⟩

section Slot
variable (G U : Vec F S1536x3072 .f32) (D : Vec F S3072x1536 .f32) (s : Fin 2)

/-- The three copies of a slot: none of them under way. -/
def IdleW : sProp 𝕄 := iprop(Idle d (guWin gM 0) (wWin s 0) (wWin s 0).view.set (lSem s 0) (half s) Finset.univ G
  ∗ Idle d (guWin uM 0) (wWin s 1) (wWin s 1).view.set (lSem s 1) (half s) Finset.univ U
  ∗ Idle d (dWin 0) (wdWin s) (wdWin5 s).view.set (lSem s 2) (half s) Finset.univ D)
/-- Tile `t` is on its way to slot `s`. -/
def BusyW (t : Fin 12) : sProp 𝕄 := iprop(Busy d (guWin gM t) (wWin s 0) (wWin s 0).view.set (lSem s 0) (half s) Finset.univ G (cols G t)
  ∗ Busy d (guWin uM t) (wWin s 1) (wWin s 1).view.set (lSem s 1) (half s) Finset.univ U (cols U t)
  ∗ Busy d (dWin t) (wdWin s) (wdWin5 s).view.set (lSem s 2) (half s) Finset.univ D (downRows D t))
/-- Tile `t` is in slot `s`. -/
def HereW (t : Fin 12) : sProp 𝕄 := iprop(Here d (guWin gM t) (wWin s 0) (wWin s 0).view.set (lSem s 0) (half s) Finset.univ G (cols G t)
  ∗ Here d (guWin uM t) (wWin s 1) (wWin s 1).view.set (lSem s 1) (half s) Finset.univ U (cols U t)
  ∗ Here d (dWin t) (wdWin s) (wdWin5 s).view.set (lSem s 2) (half s) Finset.univ D (downRows D t))

def IdleD : sProp 𝕄 := Idle d (dWin5 0) (wdWin5 s) (wdWin5 s).view.set (lSem s 2) (half s) Finset.univ D
def BusyD (t : Fin 6) : sProp 𝕄 := Busy d (dWin5 t) (wdWin5 s) (wdWin5 s).view.set (lSem s 2) (half s) Finset.univ D (downRows5 D t)
def HereD (t : Fin 6) : sProp 𝕄 := Here d (dWin5 t) (wdWin5 s) (wdWin5 s).view.set (lSem s 2) (half s) Finset.univ D (downRows5 D t)

theorem hereW_idleW (t : Fin 12) : HereW d G U D s t ⊢ IdleW d G U D s := by
  unfold HereW IdleW
  iintro ⟨H1, H2, H3⟩
  isplitl [H1]; · iapply here_idle $$ H1
  isplitl [H2]; · iapply here_idle $$ H2
  iapply here_idle $$ H3
theorem hereD_idleD (t : Fin 6) : HereD d D s t ⊢ IdleD d D s := by
  unfold HereD IdleD
  exact here_idle _ _ _ _ _ _ _ _ _

theorem start_spec (t : Fin 12) : Tri d (IdleW d G U D (slot t)) (start t) (BusyW d G U D (slot t) t) := fun K => by
  unfold IdleW BusyW start
  iintro ⟨⟨H1, H2, H3⟩, HK⟩
  iapply ((cp_spec d (guWin gM t) (wWin (slot t) 0) (wWin (slot t) 0).view.set (lSem (slot t) 0) (half (slot t)) Finset.univ G (by decide)
    (Finset.Subset.refl _) (Finset.subset_univ _) (cols G t) rfl).bind)
  isplitl [H1]; · iexact H1
  iintro H1
  iapply ((cp_spec d (guWin uM t) (wWin (slot t) 1) (wWin (slot t) 1).view.set (lSem (slot t) 1) (half (slot t)) Finset.univ U (by decide)
    (Finset.Subset.refl _) (Finset.subset_univ _) (cols U t) rfl).bind)
  isplitl [H2]; · iexact H2
  iintro H2
  iapply (cp_spec d (dWin t) (wdWin (slot t)) (wdWin5 (slot t)).view.set (lSem (slot t) 2) (half (slot t)) Finset.univ D (by decide)
    (wd_sub _) (Finset.subset_univ _) (downRows D t) rfl K)
  isplitl [H3]; · iexact H3
  iintro H3
  iapply HK
  isplitl [H1]; · iexact H1
  isplitl [H2]; · iexact H2
  iexact H3

theorem startD_spec (t : Fin 6) : Tri d (IdleD d D s) (cpD5 s t) (BusyD d D s t) := by
  unfold IdleD BusyD
  exact cp_spec d (dWin5 t) (wdWin5 s) (wdWin5 s).view.set (lSem s 2) (half s) Finset.univ D (by decide)
    (Finset.Subset.refl _) (Finset.subset_univ _) (downRows5 D t) rfl

theorem lvS_local (s : Fin 2) (i : Fin 3) : lvS (SemLoc.dma (lSem s i)) = 0 := by revert s i; decide +kernel

theorem waits_spec (t : Fin 12) (l : List (Dev nD × Key)) (hl : ∀ ck ∈ l, 0 < lvK ck.2) :
    Tri d iprop(BusyW d G U D (slot t) t ∗ Ow d l) (waits t) iprop(HereW d G U D (slot t) t ∗ Ow d l) := fun K => by
  unfold BusyW HereW waits
  generalize slot t.val = s
  have hl' : ∀ i, ∀ ck ∈ l, lvS (SemLoc.dma (lSem s i)) < lvK ck.2 := fun i ck h => (lvS_local s i).trans_lt (hl ck h)
  iintro ⟨⟨⟨H1, H2, H3⟩, HO⟩, HK⟩
  iapply ((wtl_spec d (guWin gM t) (wWin s 0) (wWin s 0).view.set (lSem s 0) (half s) Finset.univ G
    (Finset.subset_univ _) (cols G t) l (hl' 0)).bind)
  isplitl [H1 HO]; · isplitl [H1]; · iexact H1
                     iexact HO
  iintro ⟨H1, HO⟩
  iapply ((wtl_spec d (guWin uM t) (wWin s 1) (wWin s 1).view.set (lSem s 1) (half s) Finset.univ U
    (Finset.subset_univ _) (cols U t) l (hl' 1)).bind)
  isplitl [H2 HO]; · isplitl [H2]; · iexact H2
                     iexact HO
  iintro ⟨H2, HO⟩
  iapply (wtl_spec d (dWin t) (wdWin s) (wdWin5 s).view.set (lSem s 2) (half s) Finset.univ D
    (Finset.subset_univ _) (downRows D t) l (hl' 2) K)
  isplitl [H3 HO]; · isplitl [H3]; · iexact H3
                     iexact HO
  iintro ⟨H3, HO⟩
  iapply HK
  isplitr [HO]
  · isplitl [H1]; · iexact H1
    isplitl [H2]; · iexact H2
    iexact H3
  iexact HO

theorem waitD_spec (t : Fin 6) (l : List (Dev nD × Key)) (hl : ∀ ck ∈ l, 0 < lvK ck.2) :
    Tri d iprop(BusyD d D s t ∗ Ow d l) (wtD5 s t) iprop(HereD d D s t ∗ Ow d l) := by
  unfold BusyD HereD
  exact wtl_spec d (dWin5 t) (wdWin5 s) (wdWin5 s).view.set (lSem s 2) (half s) Finset.univ D
    (Finset.subset_univ _) (downRows5 D t) l (fun ck h => (lvS_local s 2).trans_lt (hl ck h))

/-- A load of a slot's weight gives what the copy left there. -/
theorem ldHere {s₁ sₐ : Shape} {src : Memref sig .tc .hbm s₁ .f32} {M : Memref sig .tc .vmem sₐ .f32} {r : Rect sₐ} (hr : ∀ a, r.stride a = 1) (hc : Shape.Squeezes r.shape s₁) (hcc : r.shape.ShapeCasts s₁)
    (hl : M.view.LoadsAt r.toLoadRect) {S : Finset (Idx (M.view.loc (d : Thread nD τ)))} (hS : (M.view.slice r).set ⊆ S) (sm : DmaSem sig) (q : PosShare TreeShare)
    {A : Finset (Idx (src.view.loc (d : Thread nD τ)))} {fa : Buf (Elt F) (src.view.loc (d : Thread nD τ))} (v : s₁.Idx → Elt F .f32)
    (K : (r.shape.Idx → Elt F .f32) → sProp 𝕄) :
    iprop(Here d src ((M.slice r hr).squeeze s₁ hc) S sm q A fa v
        ∗ (∀ V : r.shape.Idx → Elt F .f32, ⌜shapeCast s₁ V hcc = v⌝ -∗ Here d src ((M.slice r hr).squeeze s₁ hc) S sm q A fa v -∗ K V))
      ⊢ WP d (Prog.lift (.load M r.toLoadRect hl)) K := by
  unfold Here
  iintro ⟨⟨⟨%g, %hg, H⟩, Hr⟩, HK⟩
  iapply (ld_spec d (M := M) (S := S) (f := g) (q := fullShare) (by rw [View.set_slice] at hS; exact hS) K)
  isplitl [H]; · iexact H
  iintro H
  iapply HK
  · ipureintro; exact hg
  isplitl [H]
  · iexists g
    isplitr; · ipureintro; exact hg
    iexact H
  iexact Hr

end Slot

end Cert.KernelIdeal.Ring
end
-- ==== Proof.KernelIdeal.Tiles.lean ====
/-
The tiles of the two phases: a tile of the hidden rows, the sums it adds to, and the loops over the tiles.
-/
module

public import proofs.«01_k».proof.Proof.KernelIdeal.Access

@[expose] public section

set_option maxRecDepth 16384

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (d : Dev nD)

/-! ## The accumulator, by what its row blocks hold -/

/-- The accumulator, of whose row blocks `p` holds. -/
def Acc (p : Fin 2 → Fin 4 → Vec F S192x1536 .f32 → Prop) : sProp 𝕄 := iprop(∃ G, ⌜∀ g j, p g j (G (blk d g j))⌝ ∗ Out d G)

section Acc
variable {p p' : Fin 2 → Fin 4 → Vec F S192x1536 .f32 → Prop} (g : Fin 2) (j : Fin 4)

theorem Acc.mono (h : ∀ g j v, p g j v → p' g j v) : Acc d p ⊢ Acc d p' := by
  unfold Acc
  iintro ⟨%G, %hG, H⟩
  iexists G
  isplitr; · ipureintro; exact fun g j => h g j _ (hG g j)
  iexact H

theorem ldA {β : Type} (k : Vec F S192x1536 .f32 → Prog (TpuEff nD τ sig (Elt F) Λ₀ .tc) β) (K : β → sProp 𝕄) :
    iprop(Acc d p ∗ (∀ v, ⌜p g j v⌝ -∗ Acc d p -∗ WP d (k v) K)) ⊢ WP d (ldO d g j >>= k) K := by
  unfold Acc
  iintro ⟨⟨%G, %hG, H⟩, HK⟩
  iapply ((ldO_spec d G g j).bind k K)
  isplitl [H]; · iexact H
  iintro H
  iapply HK
  · ipureintro; exact hG g j
  iexists G
  isplitr; · ipureintro; exact hG
  iexact H

theorem ldAOwn {β : Type} (k : Vec F S192x1536 .f32 → Prog (TpuEff nD τ sig (Elt F) Λ₀ .tc) β) (K : β → sProp 𝕄) :
    iprop(Acc d p ∗ (∀ v, ⌜p g 3 v⌝ -∗ Acc d p -∗ WP d (k v) K)) ⊢ WP d (ldOwn d g >>= k) K := by
  unfold Acc
  iintro ⟨⟨%G, %hG, H⟩, HK⟩
  iapply ((ldOwn_spec d G g).bind k K)
  isplitl [H]; · iexact H
  iintro H
  iapply HK
  · ipureintro; exact hG g 3
  iexists G
  isplitr; · ipureintro; exact hG
  iexact H

theorem stA {w : Vec F S192x1536 .f32} (h : ∀ g' j' v, ¬(g' = g ∧ j' = j) → p g' j' v → p' g' j' v) (hw : p' g j w) :
    Tri d (Acc d p) (stO d g j w) (Acc d p') := fun K => by
  unfold Acc
  iintro ⟨⟨%G, %hG, H⟩, HK⟩
  iapply (stO_spec d G g j w K)
  isplitl [H]; · iexact H
  iintro H
  iapply HK
  iexists _
  isplitr
  rotate_left
  · iexact H
  · ipureintro
    intro g' j'
    by_cases hb : g' = g ∧ j' = j
    · obtain ⟨rfl, rfl⟩ := hb
      rw [Function.update_self]; exact hw
    · rw [Function.update_of_ne fun e => hb (blk_inj e)]
      exact h _ _ _ hb (hG g' j')
end Acc

/-! ## Weights in the slots -/

section Loads
variable {src : Memref sig .tc .hbm S1536x256 .f32} {src' : Memref sig .tc .hbm S256x1536 .f32} {src5 : Memref sig .tc .hbm S512x1536 .f32} (s i : Fin 2) (sm : DmaSem sig) (q : PosShare TreeShare) {β : Type}

theorem ldW_bind {A : Finset (Idx (src.view.loc (d : Thread nD τ)))} {fa : Buf (Elt F) (src.view.loc (d : Thread nD τ))} (v : S1536x256.Idx → Elt F .f32)
    (k : Vec F S1x1x1536x256 .f32 → Prog (TpuEff nD τ sig (Elt F) Λ₀ .tc) β) (K : β → sProp 𝕄) :
    iprop(Here d src (wWin s i) (wWin s i).view.set sm q A fa v
        ∗ (∀ V : Vec F S1x1x1536x256 .f32, ⌜shapeCast S1536x256 V shapeCasts_S1x1x1536x256_S1536x256 = v⌝ -∗ Here d src (wWin s i) (wWin s i).view.set sm q A fa v -∗ WP d (k V) K))
      ⊢ WP d (ldW s i >>= k) K := by
  rw [WP_bind]
  exact ldHere d (M := wM) (r := Rect.unit (s := S2x2x1536x256) ![s.val, i.val, 0, 0] S1x1x1536x256.size (inbW s i)) (S := (wWin s i).view.set) (fun _ => rfl) squeezes_S1x1x1536x256_S1536x256 shapeCasts_S1x1x1536x256_S1536x256 _ (Eq.subset (View.set_reshape _ _).symm) sm q v fun V => WP d (k V) K

theorem ldWd_bind {A : Finset (Idx (src'.view.loc (d : Thread nD τ)))} {fa : Buf (Elt F) (src'.view.loc (d : Thread nD τ))} (v : S256x1536.Idx → Elt F .f32)
    (k : Vec F S1x256x1536 .f32 → Prog (TpuEff nD τ sig (Elt F) Λ₀ .tc) β) (K : β → sProp 𝕄) :
    iprop(Here d src' (wdWin s) (wdWin5 s).view.set sm q A fa v
        ∗ (∀ V : Vec F S1x256x1536 .f32, ⌜shapeCast S256x1536 V shapeCasts_S1x256x1536_S256x1536 = v⌝ -∗ Here d src' (wdWin s) (wdWin5 s).view.set sm q A fa v -∗ WP d (k V) K))
      ⊢ WP d (ldWd s >>= k) K := by
  rw [WP_bind]
  exact ldHere d (M := wdM) (r := Rect.unit (s := S2x512x1536) ![s.val, 0, 0] S1x256x1536.size (inbWd s)) (S := (wdWin5 s).view.set) (fun _ => rfl) squeezes_S1x256x1536_S256x1536 shapeCasts_S1x256x1536_S256x1536 _ (by have := wd_sub s; rw [View.set_reshape] at this; exact this) sm q v fun V => WP d (k V) K

theorem ldWd5_bind {A : Finset (Idx (src5.view.loc (d : Thread nD τ)))} {fa : Buf (Elt F) (src5.view.loc (d : Thread nD τ))} (v : S512x1536.Idx → Elt F .f32)
    (k : Vec F S1x512x1536 .f32 → Prog (TpuEff nD τ sig (Elt F) Λ₀ .tc) β) (K : β → sProp 𝕄) :
    iprop(Here d src5 (wdWin5 s) (wdWin5 s).view.set sm q A fa v
        ∗ (∀ V : Vec F S1x512x1536 .f32, ⌜shapeCast S512x1536 V shapeCasts_S1x512x1536_S512x1536 = v⌝ -∗ Here d src5 (wdWin5 s) (wdWin5 s).view.set sm q A fa v -∗ WP d (k V) K))
      ⊢ WP d (ldWd5 s >>= k) K := by
  rw [WP_bind]
  exact ldHere d (M := wdM) (r := Rect.unit (s := S2x512x1536) ![s.val, 0, 0] S1x512x1536.size (inbWd5 s)) (S := (wdWin5 s).view.set) (fun _ => rfl) squeezes_S1x512x1536_S512x1536 shapeCasts_S1x512x1536_S512x1536 _ (Eq.subset (View.set_reshape _ _).symm) sm q v fun V => WP d (k V) K
end Loads

/-! ## The first phase -/

section Tile0
variable (xb : Vec F S1536x1536 .bf16) (G U : Vec F S1536x3072 .f32) (D : Vec F S3072x1536 .f32)

theorem hidden_spec (t : Fin 12) (r : Fin 2) :
    Tri d iprop(HereW d G U D (slot t) t ∗ Xb d xb ∗ Hid d (hid xb G U) t.val r.val) (hidden t r)
      iprop(HereW d G U D (slot t) t ∗ Xb d xb ∗ Hid d (hid xb G U) t.val (r.val + 1)) := fun K => by
  unfold hidden HereW
  iintro ⟨⟨⟨HG, HU, HD⟩, HX, HH⟩, HK⟩
  iapply ((ldXb_spec d xb r).bind)
  isplitl [HX]; · iexact HX
  iintro HX
  iapply ldW_bind
  isplitl [HG]; · iexact HG
  iintro %V %hV HG
  iapply ((ldXb_spec d xb r).bind)
  isplitl [HX]; · iexact HX
  iintro HX
  iapply ldW_bind
  isplitl [HU]; · iexact HU
  iintro %V' %hV' HU
  iapply (ldHt_stHt d xb G U r t (w := k0_pay4 (xRows xb r) V (xRows xb r) V') (by rw [pay4_eq, hV, hV']) K)
  isplitl [HH]; · iexact HH
  iintro HH
  iapply HK
  isplitl [HG HU HD]
  · isplitl [HG]; · iexact HG
    isplitl [HU]; · iexact HU
    iexact HD
  isplitl [HX]; · iexact HX
  iexact HH

/-- After `t` tiles, and `k` directions of the next. -/
def pA (H : Vec F S1536x3072 .bf16) (t k : ℕ) (g : Fin 2) (j : Fin 4) (v : Vec F S192x1536 .f32) : Prop :=
  j = 0 → ∃ v₀, v = fold (step0 H D (blk d g 0)) v₀ (if g.val < k then t + 1 else t)

theorem pA_next (H : Vec F S1536x3072 .bf16) (t : ℕ) (g : Fin 2) (j : Fin 4) (v : Vec F S192x1536 .f32) : pA d D H t 2 g j v → pA d D H (t + 1) 0 g j v := fun h hj => by
  obtain ⟨v₀, e⟩ := h hj
  exact ⟨v₀, by rw [e, if_pos g.isLt, if_neg (Nat.not_lt_zero _)]⟩

theorem acc0_spec {H f : Vec F S1536x3072 .bf16} (t : Fin 12) (hf : HInv H t.val 2 f) {w : Vec F S1x256x1536 .f32} (hw : shapeCast S256x1536 w shapeCasts_S1x256x1536_S256x1536 = downRows D t) (g : Fin 2) :
    Tri d iprop(Hb d f ∗ Acc d (pA d D H t g.val)) (acc0 d t w g) iprop(Hb d f ∗ Acc d (pA d D H t (g.val + 1))) := fun K => by
  have hkeep : ∀ g' j' v, ¬(g' = g ∧ j' = (0 : Fin 4)) → pA d D H t g.val g' j' v → pA d D H t (g.val + 1) g' j' v := fun g' j' v hn h hj => by
    obtain ⟨v₀, e⟩ := h hj
    refine ⟨v₀, e.trans ?_⟩
    have : g'.val ≠ g.val := fun e => hn ⟨Fin.ext e, hj⟩
    congr 1
    by_cases h1 : g'.val < g.val
    · rw [if_pos h1, if_pos (by omega)]
    · rw [if_neg h1, if_neg (by omega)]
  have hnew : ∀ v, pA d D H t g.val g 0 v → pA d D H t (g.val + 1) g 0 (step0 H D (blk d g 0) t v) := fun v h _ => by
    obtain ⟨v₀, e⟩ := h rfl
    exact ⟨v₀, by rw [if_pos (Nat.lt_succ_self _), fold_succ, e, if_neg (lt_irrefl _)]⟩
  unfold acc0
  iintro ⟨⟨HH, HA⟩, HK⟩
  iapply ((ldH_spec d g t hf).bind)
  isplitl [HH]; · iexact HH
  iintro HH
  by_cases ht : t.val = 0
  · rw [if_pos ht]
    iapply (ldA d g 0)
    isplitl [HA]; · iexact HA
    iintro %v %hv HA
    iapply (stA d g 0 hkeep (w := k0_pay6 (k0_pay5 w) (hRows H (blk d g 0) t)) (by
      have := hnew v hv
      unfold step0 at this
      rw [if_pos ht] at this
      rw [pay6_eq, hw]; exact this) K)
    isplitl [HA]; · iexact HA
    iintro HA
    iapply HK
    isplitl [HH]; · iexact HH
    iexact HA
  · rw [if_neg ht]
    iapply (ldA d g 0)
    isplitl [HA]; · iexact HA
    iintro %v %hv HA
    iapply (ldA d g 0)
    isplitl [HA]; · iexact HA
    iintro %v' - HA
    iapply (stA d g 0 hkeep (w := k0_pay11 w (hRows H (blk d g 0) t) v) (by
      have := hnew v hv
      unfold step0 at this
      rw [if_neg ht] at this
      rw [pay11_eq, hw]; exact this) K)
    isplitl [HA]; · iexact HA
    iintro HA
    iapply HK
    isplitl [HH]; · iexact HH
    iexact HA

/-- The slots before tile `n`: its copies are under way, the other slot is free. -/
def SlotsA (n : ℕ) : sProp 𝕄 :=
  iprop((if h : n < 12 then BusyW d G U D (slot n) ⟨n, h⟩ else IdleW d G U D (slot n)) ∗ IdleW d G U D (slot (n + 1)))

/-- Before tile `t` of the first phase. -/
def StA (l : List (Dev nD × Key)) (t : ℕ) : sProp 𝕄 :=
  iprop(SlotsA d G U D t ∗ Xb d xb ∗ Hid d (hid xb G U) t 0 ∗ Acc d (pA d D (hid xb G U) t 0) ∗ Ow d l)

theorem slot_next (n : ℕ) : slot (n + 1 + 1) = slot n := Fin.ext (by show (n + 1 + 1) % 2 = n % 2; omega)

theorem startNext_spec (t : Fin 12) :
    Tri d (IdleW d G U D (slot (t.val + 1))) (startNext t)
      (if h : t.val + 1 < 12 then BusyW d G U D (slot (t.val + 1)) ⟨t.val + 1, h⟩ else IdleW d G U D (slot (t.val + 1))) := by
  unfold startNext
  split
  · exact start_spec d G U D ⟨t.val + 1, by assumption⟩
  · exact Tri.skip

theorem tile0_spec (l : List (Dev nD × Key)) (hl : ∀ ck ∈ l, 0 < lvK ck.2) (t : Fin 12) :
    Tri d (StA d xb G U D l t.val) (tile0 d t) (StA d xb G U D l (t.val + 1)) := fun K => by
  unfold StA SlotsA tile0
  rw [dif_pos t.isLt, slot_next]
  iintro ⟨⟨⟨HB, HI⟩, HX, HH, HA, HO⟩, HK⟩
  iapply ((startNext_spec d G U D t).bind)
  isplitl [HI]; · iexact HI
  iintro HN
  iapply ((waits_spec d G U D t l hl).bind)
  isplitl [HB HO]
  · isplitl [HB]; · iexact HB
    iexact HO
  iintro ⟨HW, HO⟩
  iapply ((hidden_spec d xb G U D t 0).bind)
  isplitl [HW HX HH]
  · isplitl [HW]; · iexact HW
    isplitl [HX]; · iexact HX
    iexact HH
  iintro ⟨HW, HX, HH⟩
  iapply ((hidden_spec d xb G U D t 1).bind)
  isplitl [HW HX HH]
  · isplitl [HW]; · iexact HW
    isplitl [HX]; · iexact HX
    iexact HH
  iintro ⟨HW, HX, HH⟩
  unfold HereW
  icases HW with ⟨HG, HU, HD⟩
  iapply ldWd_bind
  isplitl [HD]; · iexact HD
  iintro %w %hw HD
  unfold Hid
  icases HH with ⟨%f, %hf, HH⟩
  iapply ((acc0_spec d D t hf hw 0).bind)
  isplitl [HH HA]
  · isplitl [HH]; · iexact HH
    iexact HA
  iintro ⟨HH, HA⟩
  iapply (acc0_spec d D t hf hw 1 K)
  isplitl [HH HA]
  · isplitl [HH]; · iexact HH
    iexact HA
  iintro ⟨HH, HA⟩
  iapply HK
  isplitl [HN HG HU HD]
  · isplitl [HN]; · iexact HN
    iapply (hereW_idleW d G U D (slot t.val) t)
    unfold HereW
    isplitl [HG]; · iexact HG
    isplitl [HU]; · iexact HU
    iexact HD
  isplitl [HX]; · iexact HX
  isplitl [HH]
  · iexists f
    isplitr; · ipureintro; exact HInv_next hf
    iexact HH
  isplitl [HA]; · iapply (Acc.mono d (pA_next d D (hid xb G U) t.val)); iexact HA
  iexact HO

/-- Before tile `n` of the second phase, counted through all passes. -/
def SlotsB (n : ℕ) : sProp 𝕄 :=
  iprop((if n < 18 then BusyD d D (slot n) ⟨n % 6, Nat.mod_lt _ (by decide)⟩ else IdleD d D (slot n)) ∗ IdleD d D (slot (n + 1)))

/-- Rows of pass `m` after `t` tiles, and `k` directions of the next. -/
def pB (H : Vec F S1536x3072 .bf16) (m : Fin 3) (t k : ℕ) (g : Fin 2) (j : Fin 4) (v : Vec F S192x1536 .f32) : Prop :=
  j = m.succ → ∃ v₀, v = fold (step1 H D (blk d g m.succ)) v₀ (if g.val < k then t + 1 else t)

theorem pB_next (H : Vec F S1536x3072 .bf16) (m : Fin 3) (t : ℕ) (g : Fin 2) (j : Fin 4) (v : Vec F S192x1536 .f32) : pB d D H m t 2 g j v → pB d D H m (t + 1) 0 g j v := fun h hj => by
  obtain ⟨v₀, e⟩ := h hj
  exact ⟨v₀, by rw [e, if_pos g.isLt, if_neg (Nat.not_lt_zero _)]⟩

theorem acc1_spec (H : Vec F S1536x3072 .bf16) (m : Fin 3) (t : Fin 6) {w : Vec F S1x512x1536 .f32} (hw : shapeCast S512x1536 w shapeCasts_S1x512x1536_S512x1536 = downRows5 D t) (g : Fin 2) :
    Tri d iprop(Hb d H ∗ Acc d (pB d D H m t g.val)) (acc1 d m t w g) iprop(Hb d H ∗ Acc d (pB d D H m t (g.val + 1))) := fun K => by
  have hkeep : ∀ g' j' v, ¬(g' = g ∧ j' = m.succ) → pB d D H m t g.val g' j' v → pB d D H m t (g.val + 1) g' j' v := fun g' j' v hn h hj => by
    obtain ⟨v₀, e⟩ := h hj
    refine ⟨v₀, e.trans ?_⟩
    have : g'.val ≠ g.val := fun e => hn ⟨Fin.ext e, hj⟩
    congr 1
    by_cases h1 : g'.val < g.val
    · rw [if_pos h1, if_pos (by omega)]
    · rw [if_neg h1, if_neg (by omega)]
  have hnew : ∀ v, pB d D H m t g.val g m.succ v → pB d D H m t (g.val + 1) g m.succ (step1 H D (blk d g m.succ) t v) := fun v h _ => by
    obtain ⟨v₀, e⟩ := h rfl
    exact ⟨v₀, by rw [if_pos (Nat.lt_succ_self _), fold_succ, e, if_neg (lt_irrefl _)]⟩
  unfold acc1
  iintro ⟨⟨HH, HA⟩, HK⟩
  iapply ((ldH5_spec d H g m t).bind)
  isplitl [HH]; · iexact HH
  iintro HH
  by_cases ht : t.val = 0
  · rw [if_pos ht]
    iapply (ldA d g m.succ)
    isplitl [HA]; · iexact HA
    iintro %v %hv HA
    iapply (stA d g m.succ hkeep (w := k0_pay73 w (hRows5 H (blk d g m.succ) t)) (by
      have := hnew v hv
      unfold step1 at this
      rw [if_pos ht] at this
      rw [pay73_eq, hw]; exact this) K)
    isplitl [HA]; · iexact HA
    iintro HA
    iapply HK
    isplitl [HH]; · iexact HH
    iexact HA
  · rw [if_neg ht]
    iapply (ldA d g m.succ)
    isplitl [HA]; · iexact HA
    iintro %v %hv HA
    iapply (ldA d g m.succ)
    isplitl [HA]; · iexact HA
    iintro %v' - HA
    iapply (stA d g m.succ hkeep (w := k0_pay83 w (hRows5 H (blk d g m.succ) t) v) (by
      have := hnew v hv
      unfold step1 at this
      rw [if_neg ht] at this
      rw [pay83_eq, hw]; exact this) K)
    isplitl [HA]; · iexact HA
    iintro HA
    iapply HK
    isplitl [HH]; · iexact HH
    iexact HA

/-- Before tile `t` of pass `m`. -/
def StB (H : Vec F S1536x3072 .bf16) (l : List (Dev nD × Key)) (m : Fin 3) (t : ℕ) : sProp 𝕄 :=
  iprop(SlotsB d D (6 * m.val + t) ∗ Hb d H ∗ Acc d (pB d D H m t 0) ∗ Ow d l)

theorem slot_pass (m t : ℕ) : slot (6 * m + t) = slot t := Fin.ext (by show (6 * m + t) % 2 = t % 2; omega)
theorem tile_pass (m : ℕ) (t : Fin 6) (h) : (⟨(6 * m + t.val) % 6, h⟩ : Fin 6) = t := Fin.ext (by show (6 * m + t.val) % 6 = t.val; omega)
theorem tile_next (m : ℕ) (t : Fin 6) (h h') : (⟨(6 * m + t.val + 1) % 6, h⟩ : Fin 6) = ⟨(t.val + 1) % 6, h'⟩ := Fin.ext (by show (6 * m + t.val + 1) % 6 = (t.val + 1) % 6; omega)

theorem startDNext_spec (m : Fin 3) (t : Fin 6) :
    Tri d (IdleD d D (slot (t.val + 1))) (startDNext m t)
      (if 6 * m.val + t.val + 1 < 18 then BusyD d D (slot (t.val + 1)) ⟨(t.val + 1) % 6, Nat.mod_lt _ (by decide)⟩ else IdleD d D (slot (t.val + 1))) := by
  unfold startDNext
  split
  · exact startD_spec d D _ _
  · exact Tri.skip

theorem tile1_spec (H : Vec F S1536x3072 .bf16) (l : List (Dev nD × Key)) (hl : ∀ ck ∈ l, 0 < lvK ck.2) (m : Fin 3) (t : Fin 6) :
    Tri d (StB d D H l m t.val) (tile1 d m t) (StB d D H l m (t.val + 1)) := fun K => by
  have hs : slot (6 * m.val + t.val + 1) = slot (t.val + 1) := slot_pass m.val (t.val + 1)
  have hlt : 6 * m.val + t.val < 18 := by omega
  unfold StB SlotsB tile1
  rw [← Nat.add_assoc, if_pos hlt, slot_next, hs, slot_pass, tile_pass, tile_next m.val t _ (Nat.mod_lt _ (by decide))]
  iintro ⟨⟨⟨HB, HI⟩, HH, HA, HO⟩, HK⟩
  iapply ((startDNext_spec d D m t).bind)
  isplitl [HI]; · iexact HI
  iintro HN
  iapply ((waitD_spec d D (slot t.val) t l hl).bind)
  isplitl [HB HO]
  · isplitl [HB]; · iexact HB
    iexact HO
  iintro ⟨HD, HO⟩
  unfold HereD
  iapply ldWd5_bind
  isplitl [HD]; · iexact HD
  iintro %w %hw HD
  iapply ((acc1_spec d D H m t hw 0).bind)
  isplitl [HH HA]
  · isplitl [HH]; · iexact HH
    iexact HA
  iintro ⟨HH, HA⟩
  iapply (acc1_spec d D H m t hw 1 K)
  isplitl [HH HA]
  · isplitl [HH]; · iexact HH
    iexact HA
  iintro ⟨HH, HA⟩
  iapply HK
  isplitl [HN HD]
  · isplitl [HN]; · iexact HN
    iapply (hereD_idleD d D (slot t.val) t)
    unfold HereD
    iexact HD
  isplitl [HH]; · iexact HH
  isplitl [HA]; · iapply (Acc.mono d (pB_next d D H m t.val)); iexact HA
  iexact HO

end Tile0

end Cert.KernelIdeal.Ring
end
-- ==== Proof.KernelIdeal.Ring.lean ====
/-
The steps of the ring: posting and taking sums, and the hops of the all-gather, each over the state of its block.
-/
module

public import proofs.«01_k».proof.Proof.KernelIdeal.Tiles
public import Idealize.ShloMosaic.Lib.ViewIndex

@[expose] public section

set_option maxRecDepth 16384

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (d : Dev nD)
variable (d : Dev nD)

/-! ## Blocks by their state -/

/-- Every block in its state. -/
def Bs {ι σ : Type} [Fintype ι] (P : ι → σ → sProp 𝕄) (f : ι → σ) : sProp 𝕄 := bigSep Finset.univ fun i => P i (f i)

theorem Tri.turn {d : Dev nD} {ι σ : Type} [Fintype ι] [DecidableEq ι] (P : ι → σ → sProp 𝕄) {f f' : ι → σ} (i : ι) {s s' : σ} {A B : sProp 𝕄} {e : Body F}
    (hs : f i = s) (hs' : Function.update f i s' = f') (h : Tri d iprop(A ∗ P i s) e iprop(B ∗ P i s')) :
    Tri d iprop(A ∗ Bs P f) e iprop(B ∗ Bs P f') := fun K => by
  subst hs hs'
  have ht : Bs P f ⊢ (iprop(P i (f i) ∗ ∀ s, P i s -∗ Bs P (Function.update f i s)) : sProp 𝕄) := bigSep_univ_turn P f i
  iintro ⟨⟨HA, HP⟩, HK⟩
  ihave HP := ht $$ HP
  icases HP with ⟨H, HP⟩
  iapply (h K)
  isplitl [HA H]
  · isplitl [HA]; · iexact HA
    iexact H
  iintro ⟨HB, H⟩
  iapply HK
  isplitl [HB]; · iexact HB
  iapply HP; iexact H

theorem turn {ι σ : Type} [Fintype ι] [DecidableEq ι] (P : ι → σ → sProp 𝕄) {f f' : ι → σ} (i : ι) {s s' : σ} {A B : sProp 𝕄}
    (hs : f i = s) (hs' : Function.update f i s' = f') (h : iprop(A ∗ P i s) ⊢ iprop(B ∗ P i s')) :
    iprop(A ∗ Bs P f) ⊢ iprop(B ∗ Bs P f') := by
  subst hs hs'
  have ht : Bs P f ⊢ (iprop(P i (f i) ∗ ∀ s, P i s -∗ Bs P (Function.update f i s)) : sProp 𝕄) := bigSep_univ_turn P f i
  iintro ⟨HA, HP⟩
  ihave HP := ht $$ HP
  icases HP with ⟨H, HP⟩
  ihave H := h $$ [HA H]
  · isplitl [HA]; · iexact HA
    iexact H
  icases H with ⟨HB, H⟩
  isplitl [HB]; · iexact HB
  iapply HP; iexact H

/-! ## Whole buffers and blocks of landing buffers -/

theorem ownsV_anyOf {sp : Space} {s : Shape} {e : EltTy} (M : Memref sig .tc sp s e) (X : s.Idx → Elt F e) : ownsV d M fullShare X ⊢ anyOf d M := by
  unfold ownsV anyOf
  iintro ⟨%f, -, H⟩
  iexists f; iexact H

theorem full_emb {inb} (j : S192x1536.Idx) : (Rect.unit (s := S192x1536) ![0, 0] S192x1536.size inb).emb j = j := by
  funext a; fin_cases a
  · exact Fin.ext ((ValueKit.rect_emb_unit_val _ _ _ _ _).trans (Nat.zero_add _))
  · exact Fin.ext ((ValueKit.rect_emb_unit_val _ _ _ _ _).trans (Nat.zero_add _))

/-- A whole sending buffer is filled. -/
theorem fill_spec (M : Memref sig .tc .vmem S192x1536 .bf16) (hM : M.IsWhole) (w : Vec F S192x1536 .bf16) :
    Tri d (anyOf d M) (do let _ ← ldS (F := F) M; stS M hM w) (ownsV d M fullShare w) := fun K => by
  unfold anyOf ownsV
  iintro ⟨⟨%f, H⟩, HK⟩
  rw [WP_bind]
  iapply (ld_spec (F := F) d (M := M) (r := (Rect.unit (s := S192x1536) ![0, 0] S192x1536.size inb_S192x1536_S192x1536_0_0).toLoadRect) (q := fullShare) (f := f) (S := M.view.set) (View.setOn_subset_set _ _) (fun _ => WP d (stS M hM w) K))
  isplitl [H]; · iexact H
  iintro H
  iapply (st_spec (F := F) d (M := M) (r := (Rect.unit (s := S192x1536) ![0, 0] S192x1536.size inb_S192x1536_S192x1536_0_0)) (w := w) (Mk := Finset.univ) (f := f) (S := M.view.set) (View.set_slice_subset _ _) K)
  isplitl [H]; · iexact H
  iintro H
  iapply HK
  iexists _
  isplitr
  rotate_left
  · iexact H
  · ipureintro
    funext j
    have h := congrFun (View.read_write_univ (Val := Elt F) (v := M.access (Rect.unit (s := S192x1536) ![0, 0] S192x1536.size inb_S192x1536_S192x1536_0_0)) f w) j
    refine Eq.trans ?_ h
    show _ = M.view.read (Elt F) _ ((Rect.unit (s := S192x1536) ![0, 0] S192x1536.size inb_S192x1536_S192x1536_0_0).emb j)
    rw [full_emb]

/-- A load of a landing buffer's block gives what it holds. -/
theorem ldC_bind (M : Memref sig .tc .vmem S3x192x1536 .bf16) (j : Fin 3) (q : PosShare TreeShare) (X : S192x1536.Idx → Elt F .bf16) {β : Type}
    (k : Vec F S1x192x1536 .bf16 → Prog (TpuEff nD τ sig (Elt F) Λ₀ .tc) β) (K : β → sProp 𝕄) :
    iprop(ownsV d (slotWin M j) q X
        ∗ (∀ V : Vec F S1x192x1536 .bf16, ⌜shapeCast S192x1536 V shapeCasts_S1x192x1536_S192x1536 = X⌝ -∗ ownsV d (slotWin M j) q X -∗ WP d (k V) K))
      ⊢ WP d (ldC M j >>= k) K := by
  rw [WP_bind]
  unfold ownsV
  iintro ⟨⟨%f, %hf, H⟩, HK⟩
  iapply (ld_spec (F := F) d (M := M) (r := (Rect.unit (s := S3x192x1536) ![j.val, 0, 0] S1x192x1536.size (inbC j)).toLoadRect) (q := q) (f := f) (S := (slotWin M j).view.set)
    (by rw [View.set_reshape]; exact (View.set_slice _ _).symm.subset) (fun V => WP d (k V) K))
  isplitl [H]; · iexact H
  iintro H
  iapply HK
  · ipureintro; exact hf
  iexists f
  isplitr; · ipureintro; exact hf
  iexact H

/-! ## The reduce-scatter -/

variable (m : (ℓ : Loc nD τ sig) → Buf (Elt F) ℓ) (κ : Dev nD × Key → ℕ)

/-- What device `d` waits for in direction `g` at step `j`. -/
def Pend (g : Fin 2) (j : Fin 3) : sProp 𝕄 :=
  iprop(atPos ER (kcell (d, some (0, g, j))) 0 ∅ 0 ∗ atPos ER (kcell (d, some (1, g, j))) 0 ∅ 0 ∗ cred (tallyAt (kcell (d, some (1, g, j))) () N))
/-- A block of the reduce-scatter: not posted, posted, taken. -/
def RsP (x : Fin 2 × Fin 3) : Fin 3 → sProp 𝕄
  | 0 => iprop(anyOf (peer d x.1) (slotWin (commM x.1) x.2) ∗ dutyTok ER (kcell (d, some (0, x.1, x.2))) 0 0
      ∗ dutyTok ER (kcell (peer d x.1, some (1, x.1, x.2))) 0 0 ∗ Pend d x.1 x.2)
  | 1 => iprop(cred (tallyAt (kcell (d, some (0, x.1, x.2))) () N) ∗ Pend d x.1 x.2)
  | 2 => iprop(semVal (kcell (d, some (0, x.1, x.2))) 0 ∗ semVal (kcell (d, some (1, x.1, x.2))) 0 ∗ anyOf d (slotWin (commM x.1) x.2))

variable {p p' : Fin 2 → Fin 4 → Vec F S192x1536 .f32 → Prop}

theorem post_spec (j : Fin 3) (g : Fin 2) (hp : ∀ v, p g j.castSucc v → v = accv m d g j.castSucc) (l : List (Dev nD × Key)) :
    Tri d iprop((records m κ ∗ Ow d ((peer d g, some (1, g, j)) :: l) ∗ Acc d p ∗ anyOf d (sbM g)) ∗ RsP d (g, j) 0) (post d j g)
      iprop((Ow d l ∗ Acc d p) ∗ RsP d (g, j) 1) := fun K => by
  unfold RsP post
  iintro ⟨⟨⟨#HR, HO, HA, HS⟩, Hc, Ht, Ht', HP⟩, HK⟩
  iapply (ldA d g j.castSucc)
  isplitl [HA]; · iexact HA
  iintro %v %hv HA
  have hf := fun w => fill_spec (F := F) d (sbM g) (sbM_isWhole g) w
  rw [show (k0_pay70 v : Vec F S192x1536 .bf16) = sendv m d g j from congrArg nar (hp v hv)]
  iapply ((hf (sendv m d g j)).bind (fun _ => snd (peer d g) (sbM g) (slotWin (commM g) j) (rsS g j) (rsR g j) (sbM_isWhole g).wordExact (slotWin_wordExact (commM_isWhole g) j)) K)
  isplitl [HS]; · iexact HS
  iintro HS
  iapply (snd_spec d m κ (peer d g) (0, g, j) (1, g, j) (rsS g j) (rsR g j) rfl rfl (sbM g) (slotWin (commM g) j) (credit_comm g j) fullShare (sendv m d g j)
    (ownsV_anyOf d (sbM g) _) (Entails.of_eq (by show _ = ownsV _ _ _ (sendv m (from' (peer d g) g) g j); rw [from_peer])) l K)
  isplitl [HO HS Hc Ht Ht']
  · isplitr; · iexact HR
    isplitl [HO]; · iexact HO
    isplitl [HS]; · iexact HS
    isplitl [Hc]; · iexact Hc
    isplitl [Ht]; · iexact Ht
    iexact Ht'
  iintro ⟨HO, Hs⟩
  iapply HK
  isplitl [HO HA]
  · isplitl [HO]; · iexact HO
    iexact HA
  isplitl [Hs]; · iexact Hs
  iexact HP

theorem take_spec (j : Fin 3) (g : Fin 2) (hp : ∀ v, p g j.succ v → v = partv m d g j.succ) (hk : ∀ g' j' v, ¬(g' = g ∧ j' = j.succ) → p g' j' v → p' g' j' v)
    (hp' : p' g j.succ (accv m d g j.succ)) (l : List (Dev nD × Key)) (hl : ∀ ck ∈ l, 2 + j.val < lvK ck.2) :
    Tri d iprop((records m κ ∗ Ow d l ∗ Acc d p) ∗ RsP d (g, j) 1) (take d j g) iprop((Ow d l ∗ Acc d p' ∗ anyOf d (sbM g)) ∗ RsP d (g, j) 2) := fun K => by
  unfold RsP take Pend
  iintro ⟨⟨⟨#HR, HO, HA⟩, Hs, Hps, Hpr, Hr⟩, HK⟩
  iapply ((wt_spec d m κ (0, g, j) (rsS g j) rfl (slotWin (commM g) j) (sbM g) (credit_sb g) l (fun ck h => (Nat.zero_le _).trans_lt (hl ck h))).bind)
  isplitl [HO Hs Hps]
  · isplitr; · iexact HR
    isplitl [HO]; · iexact HO
    isplitl [Hs]; · iexact Hs
    iexact Hps
  iintro ⟨HO, HS, Hvs⟩
  iapply ((wt_spec d m κ (1, g, j) (rsR g j) rfl (sbM g) (slotWin (commM g) j) (credit_comm g j) l hl).bind)
  isplitl [HO Hr Hpr]
  · isplitr; · iexact HR
    isplitl [HO]; · iexact HO
    isplitl [Hr]; · iexact Hr
    iexact Hpr
  iintro ⟨HO, HC, Hvr⟩
  have hb : pay m d (some (0, g, j)) 0 = anyOf d (sbM g) := rfl
  ihave HS := (Entails.of_eq hb) $$ HS
  have hc : pay m d (some (1, g, j)) 0 = ownsV d (slotWin (commM g) j) fullShare (sendv m (from' d g) g j) := rfl
  ihave HC := (Entails.of_eq hc) $$ HC
  iapply (ldA d g j.succ)
  isplitl [HA]; · iexact HA
  iintro %v %hv HA
  iapply ldC_bind
  isplitl [HC]; · iexact HC
  iintro %V %hV HC
  iapply (ldA d g j.succ)
  isplitl [HA]; · iexact HA
  iintro %v' - HA
  iapply (stA d g j.succ hk (w := k0_pay91 v V) (by rw [pay91_eq, hV, hp v hv, ← accv_succ]; exact hp') K)
  isplitl [HA]; · iexact HA
  iintro HA
  iapply HK
  isplitl [HO HA HS]
  · isplitl [HO]; · iexact HO
    isplitl [HA]; · iexact HA
    iexact HS
  isplitl [Hvs]; · iexact Hvs
  isplitl [Hvr]; · iexact Hvr
  iapply (ownsV_anyOf d (slotWin (commM g) j)) $$ HC

/-! ## The all-gather -/

/-- The share of a landed block that stays. -/
def kept : Fin 3 → PosShare TreeShare
  | 0 => fullShare.left | 1 => fullShare.left | 2 => fullShare

/-- The waits of hop `s` for what leaves and for what arrives. -/
def WaitS (g : Fin 2) (s : Fin 3) : sProp 𝕄 := atPos ER (kcell (d, some (2, g, s))) 0 ∅ 0
def WaitR (g : Fin 2) (s : Fin 3) : sProp 𝕄 :=
  iprop(atPos ER (kcell (d, some (3, g, s))) 0 ∅ 0 ∗ cred (tallyAt (kcell (d, some (3, g, s))) () N))
def Left (g : Fin 2) (s : Fin 3) : sProp 𝕄 := cred (tallyAt (kcell (d, some (2, g, s))) () N)
/-- A hop of the all-gather: not begun, under way, arrived, passed on, and its source back. -/
def AgP (x : Fin 2 × Fin 3) : Fin 5 → sProp 𝕄
  | 0 => iprop((anyOf (peer d x.1) (slotWin (agM x.1) x.2) ∗ dutyTok ER (kcell (d, some (2, x.1, x.2))) 0 0
      ∗ dutyTok ER (kcell (peer d x.1, some (3, x.1, x.2))) 0 0) ∗ WaitS d x.1 x.2 ∗ WaitR d x.1 x.2)
  | 1 => iprop(Left d x.1 x.2 ∗ WaitS d x.1 x.2 ∗ WaitR d x.1 x.2)
  | 2 => iprop((Left d x.1 x.2 ∗ WaitS d x.1 x.2 ∗ semVal (kcell (d, some (3, x.1, x.2))) 0) ∗ ownsV d (slotWin (agM x.1) x.2) fullShare (hopv m (from' d x.1) x.1 x.2))
  | 3 => iprop((Left d x.1 x.2 ∗ WaitS d x.1 x.2 ∗ semVal (kcell (d, some (3, x.1, x.2))) 0) ∗ ownsV d (slotWin (agM x.1) x.2) (kept x.2) (hopv m (from' d x.1) x.1 x.2))
  | 4 => iprop((ownsV d (agSrc x.1 x.2) (lent x.2) (hopv m d x.1 x.2) ∗ semVal (kcell (d, some (2, x.1, x.2))) 0 ∗ semVal (kcell (d, some (3, x.1, x.2))) 0)
      ∗ ownsV d (slotWin (agM x.1) x.2) (kept x.2) (hopv m (from' d x.1) x.1 x.2))

theorem own_spec (g : Fin 2) (hp : ∀ v, p g 3 v → v = accv m d g 3) :
    Tri d iprop(Acc d p ∗ anyOf d (ag0M g)) (own d g) iprop(Acc d p ∗ ownsV d (agSrc g 0) (lent 0) (hopv m d g 0)) := fun K => by
  unfold own
  iintro ⟨⟨HA, HS⟩, HK⟩
  iapply (ldAOwn d g)
  isplitl [HA]; · iexact HA
  iintro %v %hv HA
  rw [pay141_eq, hp v hv, ← hopv_zero]
  iapply (fill_spec d (ag0M g) (ag0M_isWhole g) (hopv m d g 0) K)
  isplitl [HS]; · iexact HS
  iintro HS
  iapply HK
  isplitl [HA]; · iexact HA
  iexact HS

theorem hop_spec (s : Fin 3) (g : Fin 2) (l : List (Dev nD × Key)) :
    Tri d iprop((records m κ ∗ Ow d ((peer d g, some (3, g, s)) :: l) ∗ ownsV d (agSrc g s) (lent s) (hopv m d g s)) ∗ AgP d m (g, s) 0) (hop d s g)
      iprop(Ow d l ∗ AgP d m (g, s) 1) := fun K => by
  unfold AgP hop Left
  iintro ⟨⟨⟨#HR, HO, HS⟩, ⟨Hc, Ht, Ht'⟩, HP⟩, HK⟩
  iapply (snd_spec d m κ (peer d g) (2, g, s) (3, g, s) (agS g s) (agR g s) rfl rfl (agSrc g s) (slotWin (agM g) s) (credit_ag g s) (lent s) (hopv m d g s)
    (Entails.of_eq rfl) (Entails.of_eq (by show _ = ownsV _ _ _ (hopv m (from' (peer d g) g) g s); rw [from_peer])) l K)
  isplitl [HO HS Hc Ht Ht']
  · isplitr; · iexact HR
    isplitl [HO]; · iexact HO
    isplitl [HS]; · iexact HS
    isplitl [Hc]; · iexact Hc
    isplitl [Ht]; · iexact Ht
    iexact Ht'
  iintro ⟨HO, Hs⟩
  iapply HK
  isplitl [HO]; · iexact HO
  isplitl [Hs]; · iexact Hs
  iexact HP

theorem arrive_spec (s : Fin 3) (g : Fin 2) (l : List (Dev nD × Key)) (hl : ∀ ck ∈ l, 5 + s.val < lvK ck.2) :
    Tri d iprop((records m κ ∗ Ow d l) ∗ AgP d m (g, s) 1) (arrive s g) iprop(Ow d l ∗ AgP d m (g, s) 2) := fun K => by
  unfold AgP arrive WaitR
  iintro ⟨⟨⟨#HR, HO⟩, Hs, HW, Hpr, Hr⟩, HK⟩
  iapply (wt_spec d m κ (3, g, s) (agR g s) rfl (agSrc g s) (slotWin (agM g) s) (credit_ag g s) l hl K)
  isplitl [HO Hr Hpr]
  · isplitr; · iexact HR
    isplitl [HO]; · iexact HO
    isplitl [Hr]; · iexact Hr
    iexact Hpr
  iintro ⟨HO, HC, Hv⟩
  have hc : pay m d (some (3, g, s)) 0 = ownsV d (slotWin (agM g) s) fullShare (hopv m (from' d g) g s) := rfl
  ihave HC := (Entails.of_eq hc) $$ HC
  iapply HK
  isplitl [HO]; · iexact HO
  isplitr [HC]
  · isplitl [Hs]; · iexact Hs
    isplitl [HW]; · iexact HW
    iexact Hv
  iexact HC

/-- A landed block in two halves. -/
theorem ownsV_halves {sp : Space} {s : Shape} {e : EltTy} (M : Memref sig .tc sp s e) (X : s.Idx → Elt F e) :
    ownsV d M fullShare X ⊢ iprop(ownsV d M fullShare.left X ∗ ownsV d M fullShare.right X) := by
  unfold ownsV
  iintro ⟨%f, %hf, H⟩
  ihave H := (pointsTo_share (PosShare.mem_left_op_right fullShare)).1 $$ H
  icases H with ⟨Hl, Hr⟩
  isplitl [Hl]
  · iexists f
    isplitr; · ipureintro; exact hf
    iexact Hl
  · iexists f
    isplitr; · ipureintro; exact hf
    iexact Hr
theorem ownsV_join {sp : Space} {s : Shape} {e : EltTy} (M : Memref sig .tc sp s e) (X : s.Idx → Elt F e) :
    iprop(ownsV d M fullShare.left X ∗ ownsV d M fullShare.right X) ⊢ ownsV d M fullShare X := by
  unfold ownsV
  iintro ⟨⟨%f, %hf, Hl⟩, ⟨%g, %hg, Hr⟩⟩
  have hfg : ∀ i ∈ M.view.set, g i = f i := fun i hi => by
    obtain ⟨x, -, rfl⟩ := Finset.mem_map.mp hi
    exact View.eq_of_read_eq (congrFun (hg.trans hf.symm) x)
  ihave Hr := (Entails.of_eq (pointsTo_congr hfg)) $$ Hr
  iexists f
  isplitr; · ipureintro; exact hf
  iapply (pointsTo_share (PosShare.mem_left_op_right fullShare)).2
  isplitl [Hl]; · iexact Hl
  iexact Hr

/-- An arrived block goes on to the next hop. -/
theorem lend_next (s s' : Fin 3) (h : s'.val = s.val + 1) (g : Fin 2) :
    AgP d m (g, s) 2 ⊢ iprop(ownsV d (agSrc g s') (lent s') (hopv m d g s') ∗ AgP d m (g, s) 3) := by
  have hk : kept s = fullShare.left ∧ lent s' = fullShare.right ∧ agSrc g s' = slotWin (agM g) s := by
    fin_cases s <;> fin_cases s' <;> first | exact absurd h (by decide) | exact ⟨rfl, rfl, rfl⟩
  unfold AgP
  rw [hk.1, hk.2.1, hk.2.2, hopv_succ m d g s s' h]
  iintro ⟨HS, HC⟩
  ihave HC := (ownsV_halves d (slotWin (agM g) s) _) $$ HC
  icases HC with ⟨Hl, Hr⟩
  isplitl [Hr]; · iexact Hr
  isplitl [HS]; · iexact HS
  iexact Hl
theorem lend_last (g : Fin 2) : AgP d m (g, 2) 2 ⊢ AgP d m (g, 2) 3 := Entails.of_eq rfl

theorem emit_spec (s : Fin 3) (g : Fin 2) (hk : ∀ g' j' v, ¬(g' = g ∧ j' = s.castSucc) → p g' j' v → p' g' j' v)
    (hp' : p' g s.castSucc (wid (hopv m (from' d g) g s))) :
    Tri d iprop(Acc d p ∗ AgP d m (g, s) 3) (emit d s g) iprop(Acc d p' ∗ AgP d m (g, s) 3) := fun K => by
  unfold AgP emit
  iintro ⟨⟨HA, HS, HC⟩, HK⟩
  iapply ldC_bind
  isplitl [HC]; · iexact HC
  iintro %V %hV HC
  iapply (ldA d g s.castSucc)
  isplitl [HA]; · iexact HA
  iintro %v' - HA
  iapply (stA d g s.castSucc hk (w := k0_pay142 V) (by rw [pay142_eq, hV]; exact hp') K)
  isplitl [HA]; · iexact HA
  iintro HA
  iapply HK
  isplitl [HA]; · iexact HA
  isplitl [HS]; · iexact HS
  iexact HC

theorem drain_spec (s : Fin 3) (g : Fin 2) (l : List (Dev nD × Key)) (hl : ∀ ck ∈ l, 0 < lvK ck.2) :
    Tri d iprop((records m κ ∗ Ow d l) ∗ AgP d m (g, s) 3) (drain1 s g) iprop(Ow d l ∗ AgP d m (g, s) 4) := fun K => by
  unfold AgP drain1 Left WaitS
  iintro ⟨⟨⟨#HR, HO⟩, ⟨Hs, Hps, Hv⟩, HC⟩, HK⟩
  iapply (wt_spec d m κ (2, g, s) (agS g s) rfl (slotWin (agM g) s) (agSrc g s) (credit_agSrc g s) l hl K)
  isplitl [HO Hs Hps]
  · isplitr; · iexact HR
    isplitl [HO]; · iexact HO
    isplitl [Hs]; · iexact Hs
    iexact Hps
  iintro ⟨HO, HS, Hvs⟩
  have hc : pay m d (some (2, g, s)) 0 = ownsV d (agSrc g s) (lent s) (hopv m d g s) := rfl
  ihave HS := (Entails.of_eq hc) $$ HS
  iapply HK
  isplitl [HO]; · iexact HO
  isplitr [HC]
  · isplitl [HS]; · iexact HS
    isplitl [Hvs]; · iexact Hvs
    iexact Hv
  iexact HC

end Cert.KernelIdeal.Ring
end
-- ==== Proof.KernelIdeal.Phases.lean ====
/-
The three phases of the body and the body as a whole.
-/
module

public import proofs.«01_k».proof.Proof.KernelIdeal.Ring

@[expose] public section

set_option maxRecDepth 16384

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (d : Dev nD) (m : (ℓ : Loc nD τ sig) → Buf (Elt F) ℓ) (κ : Dev nD × Key → ℕ)

/-! ## The first phase -/

/-- The staged input. -/
def Xin : sProp 𝕄 := ((d : Thread nD τ).loc cc0_stg0_0) ↦{fullShare} (xv m d)

theorem zero_off : (![0, 0] : Fin 2 → Nat) = fun _ => 0 := by decide

theorem whole_read (f : Vec F S1536x1536 .f32) {inb} :
    xM.view.readAt (Elt F) (Rect.unit (s := S1536x1536) ![0, 0] S1536x1536.size inb).toLoadRect f = f :=
  Memref.readAt_unit_zero (Elt F) cc0_stg0_0 zero_off inb f

theorem whole_write (f w : Vec F S1536x1536 .bf16) {inb} :
    (xbM.access (Rect.unit (s := S1536x1536) ![0, 0] S1536x1536.size inb)).write (Elt F) f w Finset.univ = w :=
  Memref.write_access_unit_zero_univ (Elt F) cc0_scratch4 zero_off inb f w

theorem narrow_spec (f : Vec F S1536x1536 .bf16) : Tri d iprop(Xin d m ∗ Xb d f) narrow iprop(Xin d m ∗ Xb d (xbv m d)) := fun K => by
  unfold Xin narrow
  iintro ⟨⟨HX, HB⟩, HK⟩
  rw [WP_bind]
  iapply (ld_spec (F := F) d (M := xM) (r := (Rect.unit (s := S1536x1536) ![0, 0] S1536x1536.size inb_S1536x1536_S1536x1536_0_0).toLoadRect) (q := fullShare) (f := xv m d) (S := Finset.univ) (Finset.subset_univ _))
  isplitl [HX]; · iexact HX
  iintro HX
  rw [whole_read]
  rw [WP_bind]
  unfold Xb
  iapply (ld_spec (F := F) d (M := xbM) (r := (Rect.unit (s := S1536x1536) ![0, 0] S1536x1536.size inb_S1536x1536_S1536x1536_0_0).toLoadRect) (q := fullShare) (f := f) (S := Finset.univ) (Finset.subset_univ _))
  isplitl [HB]; · iexact HB
  iintro HB
  iapply (st_spec (F := F) d (M := xbM) (r := (Rect.unit (s := S1536x1536) ![0, 0] S1536x1536.size inb_S1536x1536_S1536x1536_0_0)) (w := k0_pay1 (xv m d)) (Mk := Finset.univ) (f := f) (S := Finset.univ) (Finset.subset_univ _) K)
  isplitl [HB]; · iexact HB
  rw [whole_write]
  iintro HB
  iapply HK
  isplitl [HX]; · iexact HX
  iexact HB

/-- The rows of step `n` hold the running sums. -/
def pP (n : ℕ) (g : Fin 2) (j : Fin 4) (v : Vec F S192x1536 .f32) : Prop := j.val = n → v = accv m d g j

theorem pA_done (g : Fin 2) (j : Fin 4) (v : Vec F S192x1536 .f32) (h : pA d (dv m d) (hv m d) 12 0 g j v) : pP d m 0 g j v := fun hj => by
  have hj : j = 0 := Fin.ext hj
  subst hj
  obtain ⟨v₀, e⟩ := h rfl
  rw [if_neg (Nat.not_lt_zero _), fold0_eq] at e
  exact e

/-- The slots of the weights, all free. -/
def Free : sProp 𝕄 := iprop(IdleW d (gv m d) (uv m d) (dv m d) 0 ∗ IdleW d (gv m d) (uv m d) (dv m d) 1)

theorem phaseA_spec (l : List (Dev nD × Key)) (hl : ∀ ck ∈ l, 0 < lvK ck.2) :
    Tri d iprop(Free d m ∗ Xin d m ∗ (∃ f, Xb d f) ∗ (∃ f, Hb d f) ∗ (∃ G, Out d G) ∗ Ow d l) (phaseA d)
      iprop(Free d m ∗ Xin d m ∗ Xb d (xbv m d) ∗ Hb d (hv m d) ∗ Acc d (pP d m 0) ∗ Ow d l) := fun K => by
  unfold phaseA Free
  iintro ⟨⟨⟨H0, H1⟩, HX, ⟨%fx, HB⟩, ⟨%fh, HH⟩, ⟨%G, HA⟩, HO⟩, HK⟩
  iapply ((start_spec d (gv m d) (uv m d) (dv m d) 0).bind)
  isplitl [H0]; · iexact H0
  iintro H0
  iapply ((narrow_spec d m fx).bind)
  isplitl [HX HB]
  · isplitl [HX]; · iexact HX
    iexact HB
  iintro ⟨HX, HB⟩
  have hloop := Tri.loop (fun t => StA d (xbv m d) (gv m d) (uv m d) (dv m d) l t) (fun t => tile0_spec d (xbv m d) (gv m d) (uv m d) (dv m d) l hl t) 12 0 (Nat.le_refl _)
  iapply (hloop K)
  unfold StA SlotsA
  rw [dif_pos (show 0 < 12 by decide), dif_neg (show ¬ 0 + 12 < 12 by decide)]
  isplitl [H0 H1 HB HH HA HO]
  · isplitl [H0 H1]
    · isplitl [H0]; · iexact H0
      iexact H1
    isplitl [HB]; · iexact HB
    isplitl [HH]
    · unfold Hid
      iexists fh
      isplitr; · ipureintro; exact HInv_zero _ _
      iexact HH
    isplitl [HA]
    · unfold Acc
      iexists G
      isplitr; · ipureintro; exact fun g j hj => ⟨_, rfl⟩
      iexact HA
    iexact HO
  iintro ⟨⟨H0, H1⟩, HB, HH, HA, HO⟩
  unfold Hid
  icases HH with ⟨%f, %hf, HH⟩
  have hf' : f = hv m d := HInv_done hf
  subst hf'
  iapply HK
  isplitl [H0 H1]
  · isplitl [H0]; · iexact H0
    iexact H1
  isplitl [HX]; · iexact HX
  isplitl [HB]; · iexact HB
  isplitl [HH]; · iexact HH
  isplitl [HA]; · iapply (Acc.mono d (pA_done d m)); iexact HA
  iexact HO

/-! ## The reduce-scatter -/

/-- The states before pass `n`. -/
def stR (n : ℕ) (x : Fin 2 × Fin 3) : Fin 3 := if x.2.val < n then 2 else if x.2.val = n then 1 else 0
/-- The states after the sums of pass `n` are taken. -/
def stT (n : ℕ) (x : Fin 2 × Fin 3) : Fin 3 := if x.2.val ≤ n then 2 else 0
theorem stR_take : ∀ i : Fin 3, Function.update (Function.update (stR i.val) (0, i) 2) (1, i) 2 = stT i.val := by decide
theorem stT_post : ∀ i i' : Fin 3, i'.val = i.val + 1 → Function.update (Function.update (stT i.val) (0, i') 1) (1, i') 1 = stR i'.val := by decide
theorem stT_last : stT 2 = stR 3 := by decide
theorem stZ_post : Function.update (Function.update (fun _ => 0 : Fin 2 × Fin 3 → Fin 3) (0, 0) 1) (1, 0) 1 = stR 0 := by decide

theorem posts_spec (j : Fin 3) {f f' : Fin 2 × Fin 3 → Fin 3} (h0 : f (0, j) = 0) (h1 : f (1, j) = 0) (hf : Function.update (Function.update f (0, j) 1) (1, j) 1 = f') :
    Tri d iprop(records m κ ∗ Ow d (rsL d j.castSucc) ∗ Acc d (pP d m j.val) ∗ (anyOf d (sbM 0) ∗ anyOf d (sbM 1)) ∗ Bs (RsP d) f)
      (do post d j 0; post d j 1) iprop(Ow d (rsL d j.succ) ∗ Acc d (pP d m j.val) ∗ Bs (RsP d) f') := fun K => by
  have hp : ∀ g v, pP d m j.val g j.castSucc v → v = accv m d g j.castSucc := fun g v h => h rfl
  rw [rsL_cons]
  iintro ⟨⟨#HR, HO, HA, ⟨HS, HS'⟩, HB⟩, HK⟩
  iapply ((Tri.turn (RsP d) (0, j) h0 rfl (post_spec d m κ j 0 (hp 0) _)).bind)
  isplitl [HO HA HS HB]
  · isplitr [HB]
    · isplitr; · iexact HR
      isplitl [HO]; · iexact HO
      isplitl [HA]; · iexact HA
      iexact HS
    iexact HB
  iintro ⟨⟨HO, HA⟩, HB⟩
  iapply ((Tri.turn (RsP d) (1, j) ((Function.update_of_ne (fun e => absurd (congrArg Prod.fst e) (by show ¬ (1 : Fin 2) = 0; decide)) _ _).trans h1) hf (post_spec d m κ j 1 (hp 1) _)) K)
  isplitl [HO HA HS' HB]
  · isplitr [HB]
    · isplitr; · iexact HR
      isplitl [HO]; · iexact HO
      isplitl [HA]; · iexact HA
      iexact HS'
    iexact HB
  iintro ⟨⟨HO, HA⟩, HB⟩
  iapply HK
  isplitl [HO]; · iexact HO
  isplitl [HA]; · iexact HA
  iexact HB

/-- What is left to copy before pass `n`. -/
def rsN (n : ℕ) : List (Dev nD × Key) := rsL d ⟨min (n + 1) 3, by omega⟩
theorem rsN_lt (i : Fin 3) : rsN d i.val = rsL d i.succ := by unfold rsN; congr 1; exact Fin.ext (by show min (i.val + 1) 3 = i.val + 1; omega)
/-- The sending buffers are at hand before pass `n`: after the last one only. -/
def SbIf (n : ℕ) : sProp 𝕄 := if n < 3 then iprop(emp) else iprop(anyOf d (sbM 0) ∗ anyOf d (sbM 1))

/-- Before pass `n`. -/
def StP (n : ℕ) : sProp 𝕄 :=
  iprop(records m κ ∗ SlotsB d (dv m d) (6 * n) ∗ Hb d (hv m d) ∗ Acc d (pP d m n) ∗ Ow d (rsN d n) ∗ Bs (RsP d) (stR n) ∗ SbIf (F := F) d n)

/-- The rows of pass `i`, with what arrives added in the first `k` directions. -/
def pT (i : Fin 3) (k : ℕ) (g : Fin 2) (j : Fin 4) (v : Vec F S192x1536 .f32) : Prop :=
  j = i.succ → v = if g.val < k then accv m d g j else partv m d g j

theorem pB_done (i : Fin 3) (g : Fin 2) (j : Fin 4) (v : Vec F S192x1536 .f32) (h : pB d (dv m d) (hv m d) i 6 0 g j v) : pT d m i 0 g j v := fun hj => by
  subst hj
  obtain ⟨v₀, e⟩ := h rfl
  rw [if_neg (Nat.not_lt_zero _), fold1_eq] at e
  rw [if_neg (Nat.not_lt_zero _)]
  unfold partv
  rw [if_neg (Fin.succ_ne_zero i)]
  exact e
theorem pT_keep (i : Fin 3) (g : Fin 2) : ∀ g' j' v, ¬(g' = g ∧ j' = i.succ) → pT d m i g.val g' j' v → pT d m i (g.val + 1) g' j' v := fun g' j' v hn h hj => by
  have : g'.val ≠ g.val := fun e => hn ⟨Fin.ext e, hj⟩
  rw [h hj]
  by_cases h1 : g'.val < g.val
  · rw [if_pos h1, if_pos (by omega)]
  · rw [if_neg h1, if_neg (by omega)]
theorem pT_done (i : Fin 3) (g : Fin 2) (j : Fin 4) (v : Vec F S192x1536 .f32) (h : pT d m i 2 g j v) : pP d m (i.val + 1) g j v := fun hj => by
  rw [h (Fin.ext hj), if_pos g.isLt]

theorem take'_spec (i : Fin 3) (g : Fin 2) (l : List (Dev nD × Key)) (hl : ∀ ck ∈ l, 2 + i.val < lvK ck.2) :
    Tri d iprop((records m κ ∗ Ow d l ∗ Acc d (pT d m i g.val)) ∗ RsP d (g, i) 1) (take d i g) iprop((Ow d l ∗ Acc d (pT d m i (g.val + 1)) ∗ anyOf d (sbM g)) ∗ RsP d (g, i) 2) :=
  take_spec d m κ i g (fun v h => (h rfl).trans (if_neg (Nat.lt_irrefl _))) (pT_keep d m i g) (fun _ => (if_pos (Nat.lt_succ_self _)).symm) l hl

theorem postNext_spec (i : Fin 3) :
    Tri d iprop(records m κ ∗ Ow d (rsL d i.succ) ∗ Acc d (pP d m (i.val + 1)) ∗ (anyOf d (sbM 0) ∗ anyOf d (sbM 1)) ∗ Bs (RsP d) (stT i.val)) (postNext d i)
      iprop(Ow d (rsN d (i.val + 1)) ∗ Acc d (pP d m (i.val + 1)) ∗ Bs (RsP d) (stR (i.val + 1)) ∗ SbIf (F := F) d (i.val + 1)) := fun K => by
  unfold postNext SbIf
  by_cases h : i.val + 1 < 3
  · rw [dif_pos h, if_pos h]
    have e : rsL d i.succ = rsL d (⟨i.val + 1, h⟩ : Fin 3).castSucc := rfl
    have e' : rsN d (i.val + 1) = rsL d (⟨i.val + 1, h⟩ : Fin 3).succ := rsN_lt d ⟨i.val + 1, h⟩
    have hz : ∀ g, stT i.val (g, (⟨i.val + 1, h⟩ : Fin 3)) = 0 := fun g => if_neg (by show ¬ i.val + 1 ≤ i.val; omega)
    rw [e, e']
    iintro ⟨H, HK⟩
    iapply (posts_spec d m κ ⟨i.val + 1, h⟩ (hz 0) (hz 1) (stT_post i ⟨i.val + 1, h⟩ rfl) K)
    isplitl [H]; · iexact H
    iintro ⟨HO, HA, HB⟩
    iapply HK
    isplitl [HO]; · iexact HO
    isplitl [HA]; · iexact HA
    isplitl [HB]; · iexact HB
    iempintro
  · rw [dif_neg h, if_neg h]
    have hi : i = 2 := Fin.ext (by show i.val = 2; omega)
    subst hi
    rw [WP_pure]
    iintro ⟨⟨-, HO, HA, HS, HB⟩, HK⟩
    imodintro
    iapply HK
    isplitl [HO]; · iexact HO
    isplitl [HA]; · iexact HA
    isplitl [HB]
    · iapply (Entails.of_eq (congrArg (Bs (RsP d)) stT_last)); iexact HB
    iexact HS

theorem pass_spec (i : Fin 3) : Tri d (StP d m κ i.val) (pass d i) (StP d m κ (i.val + 1)) := fun K => by
  have hl : ∀ ck ∈ rsL d i.succ, 2 + i.val < lvK ck.2 := fun ck h => lt_of_lt_of_le (by show 2 + i.val < 2 + (i.val + 1); omega) (lv_rsL d i.succ ck h)
  have hl0 : ∀ ck ∈ rsL d i.succ, 0 < lvK ck.2 := fun ck h => (Nat.zero_le _).trans_lt (hl ck h)
  unfold StP pass
  rw [rsN_lt]
  iintro ⟨⟨#HR, HW, HH, HA, HO, HB, HS⟩, HK⟩
  have hloop := Tri.loop (fun t => StB d (dv m d) (hv m d) (rsL d i.succ) i t) (fun t => tile1_spec d (dv m d) (hv m d) _ hl0 i t) 6 0 (Nat.le_refl _)
  iapply (hloop.bind)
  unfold StB
  isplitl [HW HH HA HO]
  · isplitl [HW]; · iexact HW
    isplitl [HH]; · iexact HH
    isplitl [HA]
    · iapply (Acc.mono d (p := pP d m i.val) (fun g j v _ hj => ⟨v, rfl⟩)); iexact HA
    iexact HO
  iintro ⟨HW, HH, HA, HO⟩
  ihave HA := (Acc.mono d (pB_done d m i)) $$ HA
  have h0 : ∀ g, stR i.val (g, i) = 1 := fun g => (if_neg (Nat.lt_irrefl _)).trans (if_pos rfl)
  iapply ((Tri.turn (RsP d) (0, i) (h0 0) rfl (take'_spec d m κ i 0 _ hl)).bind)
  isplitl [HO HA HB]
  · isplitr [HB]
    · isplitr; · iexact HR
      isplitl [HO]; · iexact HO
      iexact HA
    iexact HB
  iintro ⟨⟨HO, HA, HS0⟩, HB⟩
  iapply ((Tri.turn (RsP d) (1, i) ((Function.update_of_ne (fun e => absurd (congrArg Prod.fst e) (by show ¬ (1 : Fin 2) = 0; decide)) _ _).trans (h0 1)) (stR_take i) (take'_spec d m κ i 1 _ hl)).bind)
  isplitl [HO HA HB]
  · isplitr [HB]
    · isplitr; · iexact HR
      isplitl [HO]; · iexact HO
      iexact HA
    iexact HB
  iintro ⟨⟨HO, HA, HS1⟩, HB⟩
  iapply (postNext_spec d m κ i K)
  isplitl [HO HA HB HS0 HS1]
  · isplitr; · iexact HR
    isplitl [HO]; · iexact HO
    isplitl [HA]; · iapply (Acc.mono d (pT_done d m i)); iexact HA
    isplitl [HS0 HS1]
    · isplitl [HS0]; · iexact HS0
      iexact HS1
    iexact HB
  iintro ⟨HO, HA, HB, HS'⟩
  iapply HK
  isplitr; · iexact HR
  isplitl [HW]; · iexact HW
  isplitl [HH]; · iexact HH
  isplitl [HA]; · iexact HA
  isplitl [HO]; · iexact HO
  isplitl [HB]; · iexact HB
  iexact HS'

theorem phaseB_spec :
    Tri d iprop(records m κ ∗ (IdleD d (dv m d) 0 ∗ IdleD d (dv m d) 1) ∗ Hb d (hv m d) ∗ Acc d (pP d m 0) ∗ Ow d (rsL d 0) ∗ (anyOf d (sbM 0) ∗ anyOf d (sbM 1)) ∗ Bs (RsP d) (fun _ => 0))
      (phaseB d)
      iprop((IdleD d (dv m d) 0 ∗ IdleD d (dv m d) 1) ∗ Hb d (hv m d) ∗ Acc d (pP d m 3) ∗ Ow d (agL d 0) ∗ (anyOf d (sbM 0) ∗ anyOf d (sbM 1)) ∗ Bs (RsP d) (fun _ => 2)) := fun K => by
  unfold phaseB
  iintro ⟨⟨#HR, ⟨H0, H1⟩, HH, HA, HO, HS, HB⟩, HK⟩
  have hp := posts_spec d m κ 0 (f := fun _ => 0) rfl rfl stZ_post
  iapply (hp.bind fun _ => do cpD5 0 0; loop (pass d) 3 0)
  isplitl [HO HA HS HB]
  · isplitr; · iexact HR
    isplitl [HO]; · iexact HO
    isplitl [HA]; · iexact HA
    isplitl [HS]; · iexact HS
    iexact HB
  iintro ⟨HO, HA, HB⟩
  iapply ((startD_spec d (dv m d) 0 0).bind)
  isplitl [H0]; · iexact H0
  iintro H0
  have hloop := Tri.loop (StP d m κ) (pass_spec d m κ) 3 0 (Nat.le_refl _)
  iapply (hloop K)
  unfold StP SlotsB SbIf
  rw [if_pos (show 6 * 0 < 18 by decide), if_neg (show ¬ 6 * (0 + 3) < 18 by decide), if_pos (show 0 < 3 by decide), if_neg (show ¬ 0 + 3 < 3 by decide)]
  isplitl [H0 H1 HH HA HO HB]
  · isplitr; · iexact HR
    isplitl [H0 H1]
    · isplitl [H0]; · iexact H0
      iexact H1
    isplitl [HH]; · iexact HH
    isplitl [HA]; · iexact HA
    isplitl [HO]; · iexact HO
    isplitl [HB]; · iexact HB
    iempintro
  iintro ⟨-, ⟨H0, H1⟩, HH, HA, HO, HB, HS⟩
  iapply HK
  isplitl [H0 H1]
  · isplitl [H0]; · iexact H0
    iexact H1
  isplitl [HH]; · iexact HH
  isplitl [HA]; · iexact HA
  isplitl [HO]; · iexact HO
  isplitl [HS]; · iexact HS
  iapply (Entails.of_eq (congrArg (Bs (RsP d)) (show stR 3 = fun _ => 2 by decide))); iexact HB

end Cert.KernelIdeal.Ring
end
-- ==== Proof.KernelIdeal.Gather.lean ====
/-
The all-gather: its hops, what it writes out, and the waits at its end.
-/
module

public import proofs.«01_k».proof.Proof.KernelIdeal.Phases

@[expose] public section

set_option maxRecDepth 16384

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (d : Dev nD) (m : (ℓ : Loc nD τ sig) → Buf (Elt F) ℓ) (κ : Dev nD × Key → ℕ)
variable (d : Dev nD) (m : (ℓ : Loc nD τ sig) → Buf (Elt F) ℓ) (κ : Dev nD × Key → ℕ)

/-- The states before round `n` of the all-gather. -/
def gat (n : ℕ) (x : Fin 2 × Fin 3) : Fin 5 := if x.2.val < n then 3 else if x.2.val = n then 1 else 0
/-- The states after what round `n` waits for has arrived, in the first `k` directions passed on. -/
def gatMid (n k : ℕ) (x : Fin 2 × Fin 3) : Fin 5 := if x.2.val < n then 3 else if x.2.val = n then (if x.1.val < k then 3 else 2) else 0
/-- The states after `n` rounds of waiting for what left. -/
def gatEnd (n : ℕ) (x : Fin 2 × Fin 3) : Fin 5 := if x.2.val < n then 4 else 3
theorem gat_hop : Function.update (Function.update (fun _ => 0 : Fin 2 × Fin 3 → Fin 5) (0, 0) 1) (1, 0) 1 = gat 0 := by decide
theorem gat_arrive : ∀ s : Fin 3, Function.update (Function.update (gat s.val) (0, s) 2) (1, s) 2 = gatMid s.val 0 := by decide
theorem gatMid_lend : ∀ (s : Fin 3) (g : Fin 2), Function.update (gatMid s.val g.val) (g, s) 3 = gatMid s.val (g.val + 1) := by decide
theorem gatMid_hop : ∀ s s' : Fin 3, s'.val = s.val + 1 → Function.update (Function.update (gatMid s.val 2) (0, s') 1) (1, s') 1 = gat s'.val := by decide
theorem gatMid_last : gatMid 2 2 = gat 3 := by decide
theorem gat_emit : ∀ (s : Fin 3) (g : Fin 2), Function.update (gat (s.val + 1)) (g, s) 3 = gat (s.val + 1) := by decide
theorem gatEnd_drain : ∀ s : Fin 3, Function.update (Function.update (gatEnd s.val) (0, s) 4) (1, s) 4 = gatEnd (s.val + 1) := by decide

theorem ne_dir (s : Fin 3) : ((1 : Fin 2), s) ≠ ((0 : Fin 2), s) := fun e => absurd (congrArg Prod.fst e) (by show ¬ (1 : Fin 2) = 0; decide)

/-- What hop `s` sends, in both directions. -/
def Srcs (s : Fin 3) : sProp 𝕄 := iprop(ownsV d (agSrc 0 s) (lent s) (hopv m d 0 s) ∗ ownsV d (agSrc 1 s) (lent s) (hopv m d 1 s))

theorem hops_spec (s : Fin 3) {f f' : Fin 2 × Fin 3 → Fin 5} (h : ∀ g, f (g, s) = 0) (hf : Function.update (Function.update f (0, s) 1) (1, s) 1 = f') :
    Tri d iprop(records m κ ∗ Ow d (agL d s.castSucc) ∗ Srcs d m s ∗ Bs (AgP d m) f) (do hop d s 0; hop d s 1)
      iprop(Ow d (agL d s.succ) ∗ Bs (AgP d m) f') := fun K => by
  rw [agL_cons]
  unfold Srcs
  iintro ⟨⟨#HR, HO, ⟨H0, H1⟩, HB⟩, HK⟩
  iapply ((Tri.turn (AgP d m) (0, s) (h 0) rfl (hop_spec d m κ s 0 _)).bind)
  isplitl [HO H0 HB]
  · isplitr [HB]
    · isplitr; · iexact HR
      isplitl [HO]; · iexact HO
      iexact H0
    iexact HB
  iintro ⟨HO, HB⟩
  iapply ((Tri.turn (AgP d m) (1, s) ((Function.update_of_ne (ne_dir s) _ _).trans (h 1)) hf (hop_spec d m κ s 1 _)) K)
  isplitl [HO H1 HB]
  · isplitr [HB]
    · isplitr; · iexact HR
      isplitl [HO]; · iexact HO
      iexact H1
    iexact HB
  iintro ⟨HO, HB⟩
  iapply HK
  isplitl [HO]; · iexact HO
  iexact HB

/-- What is left to copy before round `n`. -/
def agN (n : ℕ) : List (Dev nD × Key) := agL d ⟨min (n + 1) 3, by omega⟩
theorem agN_lt (s : Fin 3) : agN d s.val = agL d s.succ := by unfold agN; congr 1; exact Fin.ext (by show min (s.val + 1) 3 = s.val + 1; omega)

theorem lends (s s' : Fin 3) (h : s'.val = s.val + 1) : Bs (AgP d m) (gatMid s.val 0) ⊢ iprop(Srcs d m s' ∗ Bs (AgP d m) (gatMid s.val 2)) := by
  have hg : ∀ g : Fin 2, gatMid s.val g.val (g, s) = 2 := fun g => (if_neg (Nat.lt_irrefl _)).trans ((if_pos rfl).trans (if_neg (Nat.lt_irrefl _)))
  have hs : ∀ (g : Fin 2) (A : sProp 𝕄), iprop(A ∗ Bs (AgP d m) (gatMid s.val g.val)) ⊢ iprop((A ∗ ownsV d (agSrc g s') (lent s') (hopv m d g s')) ∗ Bs (AgP d m) (gatMid s.val (g.val + 1))) :=
    fun g A => turn (AgP d m) (g, s) (hg g) (gatMid_lend s g) (by
      iintro ⟨HA, H⟩
      ihave H := (lend_next d m s s' h g) $$ H
      icases H with ⟨H, H'⟩
      isplitr [H']
      · isplitl [HA]; · iexact HA
        iexact H
      iexact H')
  have h0 := hs 0 iprop(emp)
  have h1 := hs 1 (ownsV d (agSrc 0 s') (lent s') (hopv m d 0 s'))
  iintro H
  ihave H := h0 $$ [H]
  · isplitr; · iempintro
    iexact H
  icases H with ⟨⟨-, H0⟩, H⟩
  ihave H := h1 $$ [H0 H]
  · isplitl [H0]; · iexact H0
    iexact H
  icases H with ⟨H0, H⟩
  unfold Srcs
  isplitl [H0]; · iexact H0
  iexact H

theorem lends_last : Bs (AgP d m) (gatMid 2 0) ⊢ Bs (AgP d m) (gatMid 2 2) := by
  have hP : ∀ x : Fin 2 × Fin 3, AgP d m x (gatMid 2 0 x) ⊢ AgP d m x (gatMid 2 2 x) := fun x => by
    obtain ⟨g, s⟩ := x
    by_cases hs : s = 2
    · subst hs
      have h : gatMid 2 0 (g, 2) = 2 := by revert g; decide
      have h' : gatMid 2 2 (g, 2) = 3 := by revert g; decide
      rw [h, h']
      exact lend_last d m g
    · have h : gatMid 2 0 (g, s) = gatMid 2 2 (g, s) := by revert g s; decide
      rw [h]
  unfold Bs
  exact bigSep_mono fun x _ => hP x

theorem hopNext_spec (s : Fin 3) :
    Tri d iprop(records m κ ∗ Ow d (agL d s.succ) ∗ Bs (AgP d m) (gatMid s.val 0)) (hopNext d s)
      iprop(Ow d (agN d (s.val + 1)) ∗ Bs (AgP d m) (gat (s.val + 1))) := fun K => by
  unfold hopNext
  by_cases h : s.val + 1 < 3
  · rw [dif_pos h]
    have e : agL d s.succ = agL d (⟨s.val + 1, h⟩ : Fin 3).castSucc := rfl
    have e' : agN d (s.val + 1) = agL d (⟨s.val + 1, h⟩ : Fin 3).succ := agN_lt d ⟨s.val + 1, h⟩
    have hz : ∀ g, gatMid s.val 2 (g, (⟨s.val + 1, h⟩ : Fin 3)) = 0 := fun g =>
      (if_neg (by show ¬ s.val + 1 < s.val; omega)).trans (if_neg (by show ¬ s.val + 1 = s.val; omega))
    rw [e, e']
    iintro ⟨⟨HR, HO, HB⟩, HK⟩
    ihave HB := (lends d m s ⟨s.val + 1, h⟩ rfl) $$ HB
    icases HB with ⟨HS, HB⟩
    iapply (hops_spec d m κ ⟨s.val + 1, h⟩ hz (gatMid_hop s ⟨s.val + 1, h⟩ rfl) K)
    isplitl [HR HO HS HB]
    · isplitl [HR]; · iexact HR
      isplitl [HO]; · iexact HO
      isplitl [HS]; · iexact HS
      iexact HB
    iexact HK
  · rw [dif_neg h]
    have hs : s = 2 := Fin.ext (by show s.val = 2; omega)
    subst hs
    rw [WP_pure]
    iintro ⟨⟨-, HO, HB⟩, HK⟩
    imodintro
    iapply HK
    isplitl [HO]; · iexact HO
    iapply ((lends_last d m).trans (Entails.of_eq (congrArg (Bs (AgP d m)) gatMid_last))); iexact HB

/-- The rows gathered after `n` rounds, and `k` directions of the next, beside the device's own. -/
def pE (n k : ℕ) (g : Fin 2) (j : Fin 4) (v : Vec F S192x1536 .f32) : Prop :=
  (j = 3 ∨ j.val < if g.val < k then n + 1 else n) → v = resv m d g j

theorem pE_start (g : Fin 2) (j : Fin 4) (v : Vec F S192x1536 .f32) (h : pP d m 3 g j v) : pE d m 0 0 g j v := fun hj => by
  rcases hj with rfl | hj
  · exact (h rfl).trans (show accv m d g 3 = resv m d g 3 by unfold resv; rw [dif_neg (by decide)])
  · rw [if_neg (Nat.not_lt_zero _)] at hj
    exact absurd hj (Nat.not_lt_zero _)
theorem pE_keep (s : Fin 3) (g : Fin 2) : ∀ g' j' v, ¬(g' = g ∧ j' = s.castSucc) → pE d m s.val g.val g' j' v → pE d m s.val (g.val + 1) g' j' v := fun g' j' v hn h hj => by
  refine h (hj.imp_right fun hj => ?_)
  by_cases hg : g' = g
  · subst hg
    have hne : j'.val ≠ s.val := fun e => hn ⟨rfl, Fin.ext e⟩
    rw [if_pos (Nat.lt_succ_self _)] at hj
    rw [if_neg (Nat.lt_irrefl _)]
    omega
  · have : g'.val ≠ g.val := fun e => hg (Fin.ext e)
    by_cases h1 : g'.val < g.val
    · rw [if_pos h1]; rwa [if_pos (by omega)] at hj
    · rw [if_neg h1]; rwa [if_neg (by omega)] at hj
theorem pE_next (n : ℕ) (g : Fin 2) (j : Fin 4) (v : Vec F S192x1536 .f32) (h : pE d m n 2 g j v) : pE d m (n + 1) 0 g j v := fun hj => by
  rw [if_neg (Nat.not_lt_zero _)] at hj
  exact h (hj.imp_right fun hj => by rwa [if_pos g.isLt])

theorem emit'_spec (s : Fin 3) (g : Fin 2) :
    Tri d iprop(Acc d (pE d m s.val g.val) ∗ Bs (AgP d m) (gat (s.val + 1))) (emit d s g) iprop(Acc d (pE d m s.val (g.val + 1)) ∗ Bs (AgP d m) (gat (s.val + 1))) :=
  Tri.turn (AgP d m) (g, s) (if_pos (Nat.lt_succ_self _)) (gat_emit s g)
    (emit_spec d m s g (pE_keep d m s g) (fun _ => show wid (hopv m (from' d g) g s) = resv m d g s.castSucc from (show resv m d g s.castSucc = wid (hopv m (from' d g) g s) from dif_pos (show s.castSucc.val < 3 from s.isLt)).symm))

/-- Before round `n` of the all-gather. -/
def StG (n : ℕ) : sProp 𝕄 := iprop(records m κ ∗ Acc d (pE d m n 0) ∗ Ow d (agN d n) ∗ Bs (AgP d m) (gat n))

theorem gather_spec (s : Fin 3) : Tri d (StG d m κ s.val) (gather d s) (StG d m κ (s.val + 1)) := fun K => by
  have hl : ∀ ck ∈ agL d s.succ, 5 + s.val < lvK ck.2 := fun ck h => lt_of_lt_of_le (by show 5 + s.val < 5 + (s.val + 1); omega) (lv_agL d s.succ ck h)
  have h0 : ∀ g, gat s.val (g, s) = 1 := fun g => (if_neg (Nat.lt_irrefl _)).trans (if_pos rfl)
  unfold StG gather
  rw [agN_lt]
  iintro ⟨⟨#HR, HA, HO, HB⟩, HK⟩
  iapply ((Tri.turn (AgP d m) (0, s) (h0 0) rfl (arrive_spec d m κ s 0 _ hl)).bind)
  isplitl [HO HB]
  · isplitr [HB]
    · isplitr; · iexact HR
      iexact HO
    iexact HB
  iintro ⟨HO, HB⟩
  iapply ((Tri.turn (AgP d m) (1, s) ((Function.update_of_ne (ne_dir s) _ _).trans (h0 1)) (gat_arrive s) (arrive_spec d m κ s 1 _ hl)).bind)
  isplitl [HO HB]
  · isplitr [HB]
    · isplitr; · iexact HR
      iexact HO
    iexact HB
  iintro ⟨HO, HB⟩
  iapply ((hopNext_spec d m κ s).bind)
  isplitl [HO HB]
  · isplitr; · iexact HR
    isplitl [HO]; · iexact HO
    iexact HB
  iintro ⟨HO, HB⟩
  iapply ((emit'_spec d m s 0).bind)
  isplitl [HA HB]
  · isplitl [HA]; · iexact HA
    iexact HB
  iintro ⟨HA, HB⟩
  iapply (emit'_spec d m s 1 K)
  isplitl [HA HB]
  · isplitl [HA]; · iexact HA
    iexact HB
  iintro ⟨HA, HB⟩
  iapply HK
  isplitr; · iexact HR
  isplitl [HA]; · iapply (Acc.mono d (pE_next d m s.val)); iexact HA
  isplitl [HO]; · iexact HO
  iexact HB

/-- Before round `n` of the waits for what left. -/
def StW (n : ℕ) : sProp 𝕄 := iprop(records m κ ∗ Ow d [] ∗ Bs (AgP d m) (gatEnd n))

theorem drains_spec (s : Fin 3) : Tri d (StW d m κ s.val) (drain s) (StW d m κ (s.val + 1)) := fun K => by
  have hl : ∀ ck ∈ ([] : List (Dev nD × Key)), 0 < lvK ck.2 := fun ck h => absurd h List.not_mem_nil
  have h0 : ∀ g, gatEnd s.val (g, s) = 3 := fun g => if_neg (Nat.lt_irrefl _)
  unfold StW drain
  iintro ⟨⟨#HR, HO, HB⟩, HK⟩
  iapply ((Tri.turn (AgP d m) (0, s) (h0 0) rfl (drain_spec d m κ s 0 _ hl)).bind)
  isplitl [HO HB]
  · isplitr [HB]
    · isplitr; · iexact HR
      iexact HO
    iexact HB
  iintro ⟨HO, HB⟩
  iapply ((Tri.turn (AgP d m) (1, s) ((Function.update_of_ne (ne_dir s) _ _).trans (h0 1)) (gatEnd_drain s) (drain_spec d m κ s 1 _ hl)) K)
  isplitl [HO HB]
  · isplitr [HB]
    · isplitr; · iexact HR
      iexact HO
    iexact HB
  iintro ⟨HO, HB⟩
  iapply HK
  isplitr; · iexact HR
  isplitl [HO]; · iexact HO
  iexact HB

theorem phaseC_spec :
    Tri d iprop(records m κ ∗ Acc d (pP d m 3) ∗ Ow d (agL d 0) ∗ (anyOf d (ag0M 0) ∗ anyOf d (ag0M 1)) ∗ Bs (AgP d m) (fun _ => 0)) (phaseC d)
      iprop(Out d (fun b => resv m d (dirOf b) (stepOf d b)) ∗ Ow d [] ∗ Bs (AgP d m) (fun _ => 4)) := fun K => by
  unfold phaseC
  have hp : ∀ g v, pP d m 3 g 3 v → v = accv m d g 3 := fun g v h => h rfl
  iintro ⟨⟨#HR, HA, HO, ⟨H0, H1⟩, HB⟩, HK⟩
  iapply ((own_spec d m 0 (hp 0)).bind)
  isplitl [HA H0]
  · isplitl [HA]; · iexact HA
    iexact H0
  iintro ⟨HA, H0⟩
  iapply ((own_spec d m 1 (hp 1)).bind)
  isplitl [HA H1]
  · isplitl [HA]; · iexact HA
    iexact H1
  iintro ⟨HA, H1⟩
  have hh := hops_spec d m κ 0 (f := fun _ => 0) (fun _ => rfl) gat_hop
  iapply (hh.bind fun _ => do loop (gather d) 3 0; loop drain 3 0)
  unfold Srcs
  isplitl [HO H0 H1 HB]
  · isplitr; · iexact HR
    isplitl [HO]; · iexact HO
    isplitl [H0 H1]
    · isplitl [H0]; · iexact H0
      iexact H1
    iexact HB
  iintro ⟨HO, HB⟩
  have hg := Tri.loop (StG d m κ) (gather_spec d m κ) 3 0 (Nat.le_refl _)
  iapply (hg.bind)
  unfold StG
  isplitl [HA HO HB]
  · isplitr; · iexact HR
    isplitl [HA]; · iapply (Acc.mono d (pE_start d m)); iexact HA
    isplitl [HO]; · iexact HO
    iexact HB
  iintro ⟨-, HA, HO, HB⟩
  have hw := Tri.loop (StW d m κ) (drains_spec d m κ) 3 0 (Nat.le_refl _)
  iapply (hw K)
  unfold StW
  isplitl [HO HB]
  · isplitr; · iexact HR
    isplitl [HO]; · iapply (Entails.of_eq (congrArg (Ow d) (show agN d (0 + 3) = [] from agL_last d))); iexact HO
    iapply (Entails.of_eq (congrArg (Bs (AgP d m)) (show gat (0 + 3) = gatEnd 0 by decide))); iexact HB
  iintro ⟨-, HO, HB⟩
  iapply HK
  isplitl [HA]
  · unfold Acc
    icases HA with ⟨%G, %hG, HA⟩
    have e : glue G = glue fun b => resv m d (dirOf b) (stepOf d b) := glue_eq_outv m d G fun g j => hG g j (by
      by_cases hj : j = 3
      · exact Or.inl hj
      · exact Or.inr (by rw [if_neg (Nat.not_lt_zero _)]; have : j.val ≠ 3 := fun e => hj (Fin.ext e); omega))
    unfold Out
    rw [← e]
    iexact HA
  isplitl [HO]; · iexact HO
  iapply (Entails.of_eq (congrArg (Bs (AgP d m)) (show gatEnd (0 + 3) = fun _ => 4 by decide))); iexact HB

end Cert.KernelIdeal.Ring
end
-- ==== Proof.KernelIdeal.Whole.lean ====
/-
The kernel on one device, from what it starts with to what it leaves.
-/
module

public import proofs.«01_k».proof.Proof.KernelIdeal.Gather

@[expose] public section

set_option maxRecDepth 16384

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (d : Dev nD) (m : (ℓ : Loc nD τ sig) → Buf (Elt F) ℓ) (κ : Dev nD × Key → ℕ)
variable (d : Dev nD) (m : (ℓ : Loc nD τ sig) → Buf (Elt F) ℓ) (κ : Dev nD × Key → ℕ)

/-- What a block of the reduce-scatter needs beside the neighbour's slot. -/
def RsG (x : Fin 2 × Fin 3) : sProp 𝕄 :=
  iprop(dutyTok ER (kcell (d, some (0, x.1, x.2))) 0 0 ∗ dutyTok ER (kcell (peer d x.1, some (1, x.1, x.2))) 0 0 ∗ Pend d x.1 x.2)
/-- What a hop of the all-gather needs beside the neighbour's slot. -/
def AgG (x : Fin 2 × Fin 3) : sProp 𝕄 :=
  iprop((dutyTok ER (kcell (d, some (2, x.1, x.2))) 0 0 ∗ dutyTok ER (kcell (peer d x.1, some (3, x.1, x.2))) 0 0) ∗ WaitS d x.1 x.2 ∗ WaitR d x.1 x.2)

/-- The device's own landing buffers. -/
def Mine : sProp 𝕄 := iprop((slots d (commM 0) ∗ slots d (agM 0)) ∗ (slots d (commM 1) ∗ slots d (agM 1)))
/-- The device's own share of the protocol. -/
def Part : sProp 𝕄 :=
  iprop((dutyTok ER (kcell (peer d 1, none)) 0 0 ∗ dutyTok ER (kcell (peer d 0, none)) 0 1)
    ∗ (cred (tallyAt (kcell (d, none)) () 2) ∗ atPos ER (kcell (d, none)) 0 ∅ 0)
    ∗ bigSep Finset.univ (RsG d) ∗ bigSep Finset.univ (AgG d))
/-- The buffers only the device itself uses. -/
def Bufs : sProp 𝕄 :=
  iprop(Free d m ∗ Xin d m ∗ (∃ f, Xb d f) ∗ (∃ f, Hb d f) ∗ (∃ G, Out d G) ∗ (anyOf d (sbM 0) ∗ anyOf d (sbM 1)) ∗ (anyOf d (ag0M 0) ∗ anyOf d (ag0M 1)))
/-- What the device leaves. -/
def Done : sProp 𝕄 :=
  iprop(Free d m ∗ Xin d m ∗ (∃ f, Xb d f) ∗ (∃ f, Hb d f) ∗ Out d (fun b => resv m d (dirOf b) (stepOf d b)) ∗ (anyOf d (sbM 0) ∗ anyOf d (sbM 1))
    ∗ Ow d [] ∗ Bs (RsP d) (fun _ => 2) ∗ Bs (AgP d m) (fun _ => 4) ∗ semVal (kcell (d, none)) 0)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
/-- Six slots, by direction and step. -/
theorem bigSep_slots (Φ : Fin 2 × Fin 3 → sProp 𝕄) :
    bigSep Finset.univ Φ = iprop((Φ (0, 0) ∗ Φ (0, 1) ∗ Φ (0, 2)) ∗ (Φ (1, 0) ∗ Φ (1, 1) ∗ Φ (1, 2))) := by
  rw [bigSep_univ_prod, bigSep_univ_two, bigSep_fin3, bigSep_fin3]

theorem handed :
    iprop((pay m d none 0 ∗ pay m d none 1) ∗ bigSep Finset.univ (RsG d) ∗ bigSep Finset.univ (AgG d))
      ⊢ iprop(Bs (RsP d) (fun _ => 0) ∗ Bs (AgP d m) (fun _ => 0)) := by
  have hr : ∀ x, iprop(anyOf (peer d x.1) (slotWin (commM x.1) x.2) ∗ RsG d x) = RsP (F := F) d x 0 := fun x => rfl
  have ha : ∀ x, iprop(anyOf (peer d x.1) (slotWin (agM x.1) x.2) ∗ AgG d x) ⊢ AgP d m x 0 := fun x => by
    unfold AgG AgP
    iintro ⟨H1, ⟨H2, H3⟩, H4⟩
    isplitr [H4]
    · isplitl [H1]; · iexact H1
      isplitl [H2]; · iexact H2
      iexact H3
    iexact H4
  have hR : Bs (RsP (F := F) d) (fun _ => 0) = iprop((bigSep Finset.univ fun x : Fin 2 × Fin 3 => anyOf (peer d x.1) (slotWin (commM x.1) x.2)) ∗ bigSep Finset.univ (RsG d)) := by
    unfold Bs
    rw [← bigSep_sep']
    exact bigSep_congr fun x _ => (hr x).symm
  have hA : iprop((bigSep Finset.univ fun x : Fin 2 × Fin 3 => anyOf (peer d x.1) (slotWin (agM x.1) x.2)) ∗ bigSep Finset.univ (AgG d)) ⊢ Bs (AgP d m) (fun _ => 0) := by
    unfold Bs
    rw [← bigSep_sep']
    exact bigSep_mono fun x _ => ha x
  have hp : ∀ g, pay m d none g = iprop(slots (peer d g) (commM g) ∗ slots (peer d g) (agM g)) := fun _ => rfl
  rw [hR, hp, hp]
  unfold slots
  iintro ⟨⟨⟨HC0, HG0⟩, ⟨HC1, HG1⟩⟩, HR, HA⟩
  isplitl [HC0 HC1 HR]
  · isplitr [HR]
    · rw [bigSep_slots]
      isplitl [HC0]; · iexact HC0
      iexact HC1
    iexact HR
  iapply hA
  isplitr [HA]
  · rw [bigSep_slots]
    isplitl [HG0]; · iexact HG0
    iexact HG1
  iexact HA

theorem pay_up : iprop(slots d (commM 0) ∗ slots d (agM 0)) = pay m (peer d 1) none 0 := by
  show _ = iprop(slots (peer (peer d 1) 0) (commM 0) ∗ slots (peer (peer d 1) 0) (agM 0))
  rw [show peer (peer d 1) 0 = d by revert d; decide +kernel]
theorem pay_down : iprop(slots d (commM 1) ∗ slots d (agM 1)) = pay m (peer d 0) none 1 := by
  show _ = iprop(slots (peer (peer d 0) 1) (commM 1) ∗ slots (peer (peer d 0) 1) (agM 1))
  rw [show peer (peer d 0) 1 = d by revert d; decide +kernel]

theorem idle_eq (s : Fin 2) : Idle d (dWin 0) (wdWin s) (wdWin5 s).view.set (lSem s 2) (half s) Finset.univ (dv m d) = IdleD d (dv m d) s := by
  unfold IdleD Idle; rfl

theorem ring_spec : Tri d iprop(records m κ ∗ Ow d (allL d) ∗ Mine d ∗ Part d ∗ Bufs d m) (ringProg d) (Done d m) := fun K => by
  unfold ringProg Mine Part Bufs allL
  rw [dev1_eq, dev2_eq, pay_up d m, pay_down d m]
  iintro ⟨⟨#HR, HO, ⟨HM0, HM1⟩, ⟨⟨HT0, HT1⟩, ⟨Hc, Ha⟩, HG, HG'⟩, HF, HX, HB, HH, HA, HS, HZ⟩, HK⟩
  iapply ((sig_spec d m κ (peer d 1) 0 _).bind)
  isplitl [HO HT0 HM0]
  · isplitr; · iexact HR
    isplitl [HO]; · iexact HO
    isplitl [HT0]; · iexact HT0
    iexact HM0
  iintro HO
  iapply ((sig_spec d m κ (peer d 0) 1 _).bind)
  isplitl [HO HT1 HM1]
  · isplitr; · iexact HR
    isplitl [HO]; · iexact HO
    isplitl [HT1]; · iexact HT1
    iexact HM1
  iintro HO
  iapply ((phaseA_spec d m (rsL d 0) fun ck h => lt_of_lt_of_le (by decide) (lv_rsL d 0 ck h)).bind)
  isplitl [HF HX HB HH HA HO]
  · isplitl [HF]; · iexact HF
    isplitl [HX]; · iexact HX
    isplitl [HB]; · iexact HB
    isplitl [HH]; · iexact HH
    isplitl [HA]; · iexact HA
    iexact HO
  iintro ⟨HF, HX, HB, HH, HA, HO⟩
  iapply ((bar_spec d m κ (rsL d 0) fun ck h => lt_of_lt_of_le (by decide) (lv_rsL d 0 ck h)).bind)
  isplitl [HO Hc Ha]
  · isplitr; · iexact HR
    isplitl [HO]; · iexact HO
    isplitl [Hc]; · iexact Hc
    iexact Ha
  iintro ⟨HO, HP, HV⟩
  ihave HP := (handed d m) $$ [HP HG HG']
  · isplitl [HP]; · iexact HP
    isplitl [HG]; · iexact HG
    iexact HG'
  icases HP with ⟨HP, HP'⟩
  unfold Free IdleW
  icases HF with ⟨⟨Hg0, Hu0, Hd0⟩, ⟨Hg1, Hu1, Hd1⟩⟩
  iapply ((phaseB_spec d m κ).bind)
  isplitl [Hd0 Hd1 HH HA HO HS HP]
  · isplitr; · iexact HR
    isplitl [Hd0 Hd1]
    · isplitl [Hd0]; · iapply (Entails.of_eq (idle_eq d m 0)); iexact Hd0
      iapply (Entails.of_eq (idle_eq d m 1)); iexact Hd1
    isplitl [HH]; · iexact HH
    isplitl [HA]; · iexact HA
    isplitl [HO]; · iexact HO
    isplitl [HS]; · iexact HS
    iexact HP
  iintro ⟨⟨Hd0, Hd1⟩, HH, HA, HO, HS, HP⟩
  iapply (phaseC_spec d m κ K)
  isplitl [HA HO HZ HP']
  · isplitr; · iexact HR
    isplitl [HA]; · iexact HA
    isplitl [HO]; · iexact HO
    isplitl [HZ]; · iexact HZ
    iexact HP'
  iintro ⟨HA, HO, HP'⟩
  iapply HK
  unfold Done Free IdleW
  isplitl [Hg0 Hu0 Hd0 Hg1 Hu1 Hd1]
  · isplitl [Hg0 Hu0 Hd0]
    · isplitl [Hg0]; · iexact Hg0
      isplitl [Hu0]; · iexact Hu0
      iapply (Entails.of_eq (idle_eq d m 0).symm); iexact Hd0
    isplitl [Hg1]; · iexact Hg1
    isplitl [Hu1]; · iexact Hu1
    iapply (Entails.of_eq (idle_eq d m 1).symm); iexact Hd1
  isplitl [HX]; · iexact HX
  isplitl [HB]; · iexists _; iexact HB
  isplitl [HH]; · iexists _; iexact HH
  isplitl [HA]; · iexact HA
  isplitl [HS]; · iexact HS
  isplitl [HO]; · iexact HO
  isplitl [HP]; · iexact HP
  isplitl [HP']; · iexact HP'
  iexact HV

theorem dev_spec (k : Dev nD → Body F) (K : PUnit → sProp 𝕄) : WP d (k d) K ⊢ WP d (.op .deviceId k) K := by
  unfold WP
  rw [wp_deviceId]

theorem prog_spec : Tri d iprop(records m κ ∗ Ow d (allL d) ∗ Mine d ∗ Part d ∗ Bufs d m) (prog (F := F)) (Done d m) := fun K =>
  (ring_spec d m κ K).trans (dev_spec d (fun d => ringProg d) K)

end Cert.KernelIdeal.Ring
end
-- ==== Proof.KernelIdeal.Buffers.lean ====
/-
The buffers and counters a device starts with, cut into what the kernel works on, and put together again.
-/
module

public import proofs.«01_k».proof.Proof.KernelIdeal.Whole

@[expose] public section

set_option maxRecDepth 16384

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (d : Dev nD) (m : (ℓ : Loc nD τ sig) → Buf (Elt F) ℓ) (κ : Dev nD × Key → ℕ)
variable (d : Dev nD) (m : (ℓ : Loc nD τ sig) → Buf (Elt F) ℓ)

/-! ## A buffer in parts -/

omit [FloatOps F] in
theorem parts_split {ℓ : Loc nD τ sig} {ι : Type} [Fintype ι] [DecidableEq ι] (S : ι → Finset (Idx ℓ)) (p : Idx ℓ → ι) (hp : ∀ i x, x ∈ S i ↔ p x = i) :
    iprop(∃ f : Buf (Elt F) ℓ, ℓ ↦{fullShare} f) ⊢ (bigSep Finset.univ fun i => iprop(∃ f : Buf (Elt F) ℓ, ℓ ↦[S i]{fullShare} f) : sProp 𝕄) := by
  have hu : Finset.univ.biUnion S = Finset.univ := Finset.eq_univ_iff_forall.mpr fun x => Finset.mem_biUnion.mpr ⟨p x, Finset.mem_univ _, (hp _ x).mpr rfl⟩
  have hd : ∀ i ∈ (Finset.univ : Finset ι), ∀ j ∈ (Finset.univ : Finset ι), i ≠ j → Disjoint (S i) (S j) := fun i _ j _ h =>
    Finset.disjoint_left.mpr fun x hi hj => h (((hp i x).mp hi).symm.trans ((hp j x).mp hj))
  have hb : ∀ f : Buf (Elt F) ℓ, (ℓ ↦{fullShare} f) ⊢ (bigSep Finset.univ fun i => iprop(∃ f : Buf (Elt F) ℓ, ℓ ↦[S i]{fullShare} f) : sProp 𝕄) := fun f => by
    refine (Entails.of_eq (show (ℓ ↦{fullShare} f : sProp 𝕄) = bigSep Finset.univ fun i => ℓ ↦[S i]{fullShare} f from ?_)).trans (bigSep_mono fun i _ => ?_)
    · rw [← pointsTo_biUnion Finset.univ S hd, hu]
    · have h : (ℓ ↦[S i]{fullShare} f : sProp 𝕄) ⊢ (iprop(∃ f : Buf (Elt F) ℓ, ℓ ↦[S i]{fullShare} f) : sProp 𝕄) := by iintro H; iexists f; iexact H
      exact h
  iintro ⟨%f, H⟩
  iapply (hb f); iexact H

omit [FloatOps F] in
theorem parts_join {ℓ : Loc nD τ sig} [Nonempty (Buf (Elt F) ℓ)] {ι : Type} [Fintype ι] [DecidableEq ι] (S : ι → Finset (Idx ℓ)) (p : Idx ℓ → ι) (hp : ∀ i x, x ∈ S i ↔ p x = i) :
    (bigSep Finset.univ fun i => iprop(∃ f : Buf (Elt F) ℓ, ℓ ↦[S i]{fullShare} f) : sProp 𝕄) ⊢ iprop(∃ f : Buf (Elt F) ℓ, ℓ ↦{fullShare} f) := by
  have hu : Finset.univ.biUnion S = Finset.univ := Finset.eq_univ_iff_forall.mpr fun x => Finset.mem_biUnion.mpr ⟨p x, Finset.mem_univ _, (hp _ x).mpr rfl⟩
  have hd : ∀ i ∈ (Finset.univ : Finset ι), ∀ j ∈ (Finset.univ : Finset ι), i ≠ j → Disjoint (S i) (S j) := fun i _ j _ h =>
    Finset.disjoint_left.mpr fun x hi hj => h (((hp i x).mp hi).symm.trans ((hp j x).mp hj))
  have f₀ : Buf (Elt F) ℓ := Classical.arbitrary _
  iintro H
  ihave H := (BI.bigSep_exists_pi Finset.univ (fun (i : ι) (f : Buf (Elt F) ℓ) => (ℓ ↦[S i]{fullShare} f : sProp 𝕄))) $$ H
  icases H with ⟨%fs, H⟩
  ihave H := (pointsTo_biUnion_join Finset.univ S fs f₀ hd) $$ H
  icases H with ⟨%f, -, H⟩
  rw [hu]
  iexists f; iexact H

/-- A part and its place. -/
theorem slot_mem (b : Memref sig .tc .vmem S3x192x1536 .bf16) (hb : b = commM 0 ∨ b = commM 1 ∨ b = agM 0 ∨ b = agM 1) :
    ∃ p : Idx (b.view.loc (d : Thread nD τ)) → Fin 3, ∀ j x, x ∈ (slotWin b j).view.set ↔ p x = j := by
  have h : ∀ (x : S3x192x1536.Idx) (j : Fin 3), x ∈ (Rect.unit (s := S3x192x1536) ![j.val, 0, 0] S1x192x1536.size (inbC j)).set ↔ x 0 = j := fun x j => by
    rw [Rect.mem_set_unit]
    constructor
    · intro h
      have h0 := h 0
      exact Fin.ext (by have h1 : j.val ≤ (x 0).val := h0.1; have h2 : (x 0).val < j.val + 1 := h0.2; omega)
    · rintro rfl a
      fin_cases a
      · exact ⟨le_refl _, Nat.lt_succ_self _⟩
      · exact ⟨Nat.zero_le _, (show (x 1).val < 192 from (x 1).isLt).trans_eq (Nat.zero_add _).symm⟩
      · exact ⟨Nat.zero_le _, (show (x 2).val < 1536 from (x 2).isLt).trans_eq (Nat.zero_add _).symm⟩
  rcases hb with rfl | rfl | rfl | rfl <;>
    exact ⟨fun x => (show S3x192x1536.Idx from x) 0, fun j x => by
      rw [View.set_reshape]
      refine Iff.trans (Iff.of_eq ?_) (h x j)
      exact congrArg (fun S => x ∈ S) (View.set_slice_whole _ _)⟩

theorem w_mem (s i : Fin 2) (x : S2x2x1536x256.Idx) : x ∈ (wWin s i).view.set ↔ (x 0, x 1) = (s, i) := by
  rw [View.set_reshape, View.set_slice_whole, Rect.mem_set_unit]
  constructor
  · intro h
    have h0 : s.val ≤ (x 0).val ∧ (x 0).val < s.val + 1 := h 0
    have h1 : i.val ≤ (x 1).val ∧ (x 1).val < i.val + 1 := h 1
    exact Prod.ext (Fin.ext (by show (x 0).val = s.val; omega)) (Fin.ext (by show (x 1).val = i.val; omega))
  · intro h a
    have h0 : (x 0).val = s.val := congrArg (fun y : Fin 2 × Fin 2 => y.1.val) h
    have h1 : (x 1).val = i.val := congrArg (fun y : Fin 2 × Fin 2 => y.2.val) h
    fin_cases a
    · exact ⟨le_of_eq h0.symm, by show (x 0).val < s.val + 1; omega⟩
    · exact ⟨le_of_eq h1.symm, by show (x 1).val < i.val + 1; omega⟩
    · exact ⟨Nat.zero_le _, (show (x 2).val < 1536 from (x 2).isLt).trans_eq (Nat.zero_add _).symm⟩
    · exact ⟨Nat.zero_le _, (show (x 3).val < 256 from (x 3).isLt).trans_eq (Nat.zero_add _).symm⟩

theorem wd_mem (s : Fin 2) (x : S2x512x1536.Idx) : x ∈ (wdWin5 s).view.set ↔ x 0 = s := by
  rw [View.set_reshape, View.set_slice_whole, Rect.mem_set_unit]
  constructor
  · intro h
    have h0 : s.val ≤ (x 0).val ∧ (x 0).val < s.val + 1 := h 0
    exact Fin.ext (by omega)
  · rintro rfl a
    fin_cases a
    · exact ⟨le_refl _, Nat.lt_succ_self _⟩
    · exact ⟨Nat.zero_le _, (show (x 1).val < 512 from (x 1).isLt).trans_eq (Nat.zero_add _).symm⟩
    · exact ⟨Nat.zero_le _, (show (x 2).val < 1536 from (x 2).isLt).trans_eq (Nat.zero_add _).symm⟩

/-- A buffer, whatever it holds. -/
def full (b : Ref sig .tc) : sProp 𝕄 := iprop(∃ f : Buf (Elt F) ((d : Thread nD τ).loc b), ((d : Thread nD τ).loc b) ↦{fullShare} f)

section Slots
variable (M : Memref sig .tc .vmem S3x192x1536 .bf16) (hM : ∃ p : Idx (M.view.loc (d : Thread nD τ)) → Fin 3, ∀ j x, x ∈ (slotWin M j).view.set ↔ p x = j)
include hM
theorem slots_split : iprop(∃ f : Buf (Elt F) (M.view.loc (d : Thread nD τ)), M.view.loc (d : Thread nD τ) ↦{fullShare} f) ⊢ (slots d M : sProp 𝕄) := by
  obtain ⟨p, hp⟩ := hM
  have h := parts_split (F := F) (ℓ := M.view.loc (d : Thread nD τ)) (fun j => (slotWin M j).view.set) p hp
  rw [bigSep_fin3] at h
  unfold slots anyOf
  exact h
theorem slots_join : (slots d M : sProp 𝕄) ⊢ iprop(∃ f : Buf (Elt F) (M.view.loc (d : Thread nD τ)), M.view.loc (d : Thread nD τ) ↦{fullShare} f) := by
  obtain ⟨p, hp⟩ := hM
  have h := parts_join (F := F) (ℓ := M.view.loc (d : Thread nD τ)) (fun j => (slotWin M j).view.set) p hp
  rw [bigSep_fin3] at h
  unfold slots anyOf
  exact h
end Slots

/-! ## The weights -/

/-- The arguments in memory. -/
def Args : sProp 𝕄 := iprop((((d : Thread nD τ).loc main_arg1) ↦{fullShare} gv m d) ∗ (((d : Thread nD τ).loc main_arg2) ↦{fullShare} uv m d) ∗ (((d : Thread nD τ).loc main_arg3) ↦{fullShare} dv m d))
/-- The counters of the weights' copies. -/
def Cnt (x : Fin 2 × Fin 3) : sProp 𝕄 := semVal ((d : Thread nD τ), SemLoc.dma (lSem x.1 x.2)) 0

theorem free_intro : iprop(full d cc0_scratch0 ∗ full d cc0_scratch1 ∗ Args d m ∗ bigSep Finset.univ (Cnt d)) ⊢ Free d m := by
  have hw := (parts_split (F := F) (ℓ := (d : Thread nD τ).loc cc0_scratch0) (fun x : Fin 2 × Fin 2 => (wWin x.1 x.2).view.set) (fun x : S2x2x1536x256.Idx => (x 0, x 1)) (fun i x => w_mem i.1 i.2 x)).trans
    (Entails.of_eq ((bigSep_univ_prod _).trans (by rw [bigSep_univ_two, bigSep_univ_two, bigSep_univ_two])))
  have hd := (parts_split (F := F) (ℓ := (d : Thread nD τ).loc cc0_scratch1) (fun s : Fin 2 => (wdWin5 s).view.set) (fun x : S2x512x1536.Idx => x 0) wd_mem).trans
    (Entails.of_eq (bigSep_univ_two _))
  unfold full Args Free IdleW Idle Cnt
  rw [bigSep_slots]
  iintro ⟨HW, HD, ⟨H1, H2, H3⟩, ⟨⟨C00, C01, C02⟩, ⟨C10, C11, C12⟩⟩⟩
  ihave HW := hw $$ HW
  ihave HD := hd $$ HD
  icases HW with ⟨⟨W00, W01⟩, ⟨W10, W11⟩⟩
  icases HD with ⟨D0, D1⟩
  ihave H1 := (pointsTo_share (PosShare.mem_left_op_right fullShare)).1 $$ H1
  ihave H2 := (pointsTo_share (PosShare.mem_left_op_right fullShare)).1 $$ H2
  ihave H3 := (pointsTo_share (PosShare.mem_left_op_right fullShare)).1 $$ H3
  icases H1 with ⟨H1, H1'⟩
  icases H2 with ⟨H2, H2'⟩
  icases H3 with ⟨H3, H3'⟩
  isplitl [W00 W01 D0 H1 H2 H3 C00 C01 C02]
  · isplitl [W00 H1 C00]
    · isplitl [W00]; · iexact W00
      isplitl [C00]; · iexact C00
      iexact H1
    isplitl [W01 H2 C01]
    · isplitl [W01]; · iexact W01
      isplitl [C01]; · iexact C01
      iexact H2
    isplitl [D0]; · iexact D0
    isplitl [C02]; · iexact C02
    iexact H3
  isplitl [W10 H1' C10]
  · isplitl [W10]; · iexact W10
    isplitl [C10]; · iexact C10
    iexact H1'
  isplitl [W11 H2' C11]
  · isplitl [W11]; · iexact W11
    isplitl [C11]; · iexact C11
    iexact H2'
  isplitl [D1]; · iexact D1
  isplitl [C12]; · iexact C12
  iexact H3'

theorem free_elim : Free d m ⊢ iprop(full d cc0_scratch0 ∗ full d cc0_scratch1 ∗ Args d m ∗ bigSep Finset.univ (Cnt d)) := by
  have hw := (Entails.of_eq ((bigSep_univ_prod fun x : Fin 2 × Fin 2 => iprop(∃ f : Buf (Elt F) ((d : Thread nD τ).loc cc0_scratch0), ((d : Thread nD τ).loc cc0_scratch0) ↦[(wWin x.1 x.2).view.set]{fullShare} f)).trans
      (by rw [bigSep_univ_two, bigSep_univ_two, bigSep_univ_two])).symm).trans
    (parts_join (F := F) (ℓ := (d : Thread nD τ).loc cc0_scratch0) (fun x : Fin 2 × Fin 2 => (wWin x.1 x.2).view.set) (fun x : S2x2x1536x256.Idx => (x 0, x 1)) (fun i x => w_mem i.1 i.2 x))
  have hd := (Entails.of_eq (bigSep_univ_two fun s : Fin 2 => iprop(∃ f : Buf (Elt F) ((d : Thread nD τ).loc cc0_scratch1), ((d : Thread nD τ).loc cc0_scratch1) ↦[(wdWin5 s).view.set]{fullShare} f)).symm).trans
    (parts_join (F := F) (ℓ := (d : Thread nD τ).loc cc0_scratch1) (fun s : Fin 2 => (wdWin5 s).view.set) (fun x : S2x512x1536.Idx => x 0) wd_mem)
  unfold full Args Free IdleW Idle Cnt
  rw [bigSep_slots]
  iintro ⟨⟨⟨W00, C00, H1⟩, ⟨W01, C01, H2⟩, ⟨D0, C02, H3⟩⟩, ⟨⟨W10, C10, H1'⟩, ⟨W11, C11, H2'⟩, ⟨D1, C12, H3'⟩⟩⟩
  isplitl [W00 W01 W10 W11]
  · iapply hw
    isplitl [W00 W01]
    · isplitl [W00]; · iexact W00
      iexact W01
    isplitl [W10]; · iexact W10
    iexact W11
  isplitl [D0 D1]
  · iapply hd
    isplitl [D0]; · iexact D0
    iexact D1
  isplitl [H1 H2 H3 H1' H2' H3']
  · isplitl [H1 H1']
    · iapply (pointsTo_share (PosShare.mem_left_op_right fullShare)).2
      isplitl [H1]; · iexact H1
      iexact H1'
    isplitl [H2 H2']
    · iapply (pointsTo_share (PosShare.mem_left_op_right fullShare)).2
      isplitl [H2]; · iexact H2
      iexact H2'
    iapply (pointsTo_share (PosShare.mem_left_op_right fullShare)).2
    isplitl [H3]; · iexact H3
    iexact H3'
  isplitl [C00 C01 C02]
  · isplitl [C00]; · iexact C00
    isplitl [C01]; · iexact C01
    iexact C02
  isplitl [C10]; · iexact C10
  isplitl [C11]; · iexact C11
  iexact C12

/-! ## The landing buffers and the sending buffers -/

theorem mine_intro : iprop((full d cc0_scratch5 ∗ full d cc0_scratch6) ∗ (full d cc0_scratch10 ∗ full d cc0_scratch12)) ⊢ (Mine d : sProp 𝕄) := by
  unfold Mine full
  iintro ⟨⟨H5, H6⟩, H10, H12⟩
  isplitl [H5 H10]
  · isplitl [H5]; · iapply (slots_split d (commM 0) (slot_mem d _ (Or.inl rfl))); iexact H5
    iapply (slots_split d (agM 0) (slot_mem d _ (Or.inr (Or.inr (Or.inl rfl))))); iexact H10
  isplitl [H6]; · iapply (slots_split d (commM 1) (slot_mem d _ (Or.inr (Or.inl rfl)))); iexact H6
  iapply (slots_split d (agM 1) (slot_mem d _ (Or.inr (Or.inr (Or.inr rfl))))); iexact H12

theorem mine_elim : (Mine d : sProp 𝕄) ⊢ iprop((full d cc0_scratch5 ∗ full d cc0_scratch6) ∗ (full d cc0_scratch10 ∗ full d cc0_scratch12)) := by
  unfold Mine full
  iintro ⟨⟨H5, H10⟩, H6, H12⟩
  isplitl [H5 H6]
  · isplitl [H5]; · iapply (slots_join d (commM 0) (slot_mem d _ (Or.inl rfl))); iexact H5
    iapply (slots_join d (commM 1) (slot_mem d _ (Or.inr (Or.inl rfl)))); iexact H6
  isplitl [H10]; · iapply (slots_join d (agM 0) (slot_mem d _ (Or.inr (Or.inr (Or.inl rfl))))); iexact H10
  iapply (slots_join d (agM 1) (slot_mem d _ (Or.inr (Or.inr (Or.inr rfl))))); iexact H12

/-- A whole buffer as a view. -/
theorem anyOf_whole (b : Ref sig .tc) : anyOf d (Memref.whole b) = (full d b : sProp 𝕄) := by
  unfold anyOf full
  simp only [Memref.view_whole, View.set_whole]

end Cert.KernelIdeal.Ring
end
-- ==== Proof.KernelIdeal.Ends.lean ====
/-
What a device starts with is what its scoped buffers and counters hold, and what it leaves gives them back.
-/
module

public import proofs.«01_k».proof.Proof.KernelIdeal.Buffers

@[expose] public section

set_option maxRecDepth 16384

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (d : Dev nD) (m : (ℓ : Loc nD τ sig) → Buf (Elt F) ℓ) (κ : Dev nD × Key → ℕ)
variable (d : Dev nD) (m : (ℓ : Loc nD τ sig) → Buf (Elt F) ℓ)

omit [FloatOps F] in
theorem sep_swap (A B C : sProp 𝕄) : iprop(A ∗ B ∗ C) = iprop((A ∗ B) ∗ C) :=
  have h1 : iprop(A ∗ B ∗ C) ⊢ iprop((A ∗ B) ∗ C) := by
    iintro ⟨HA, HB, HC⟩
    isplitr [HC]
    · isplitl [HA]; · iexact HA
      iexact HB
    iexact HC
  have h2 : iprop((A ∗ B) ∗ C) ⊢ iprop(A ∗ B ∗ C) := by
    iintro ⟨⟨HA, HB⟩, HC⟩
    isplitl [HA]; · iexact HA
    isplitl [HB]; · iexact HB
    iexact HC
  Entails.antisymm h1 h2

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- The counters of the transfers between devices. -/
def Rcv (x : Fin 4 × Fin 2 × Fin 3) : sProp 𝕄 := semVal (kcell (d, some x)) 0
/-- Those of one block of the reduce-scatter, and of one hop of the all-gather. -/
def Rcv0 (x : Fin 2 × Fin 3) : sProp 𝕄 := iprop(Rcv d (0, x) ∗ Rcv d (1, x))
def Rcv2 (x : Fin 2 × Fin 3) : sProp 𝕄 := iprop(Rcv d (2, x) ∗ Rcv d (3, x))

omit [FloatOps F] in
theorem bigSep_Rcv : (bigSep Finset.univ (Rcv d) : sProp 𝕄) = iprop(bigSep Finset.univ (Rcv0 d) ∗ bigSep Finset.univ (Rcv2 d)) := by
  unfold Rcv0 Rcv2
  rw [bigSep_univ_prod, bigSep_fin4, bigSep_sep', bigSep_sep', sep_swap]

/-- The twelve scoped buffers. -/
def Scr : sProp 𝕄 :=
  iprop(full d cc0_scratch0 ∗ full d cc0_scratch1 ∗ full d cc0_scratch3 ∗ full d cc0_scratch4 ∗ full d cc0_scratch5 ∗ full d cc0_scratch6
    ∗ full d cc0_scratch7 ∗ full d cc0_scratch8 ∗ full d cc0_scratch9 ∗ full d cc0_scratch10 ∗ full d cc0_scratch11 ∗ full d cc0_scratch12)
omit [FloatOps F] in
theorem scr_eq : (Pipeline.scopedRest spec0 d : sProp 𝕄) = Scr d := scopedRest0_eq d

theorem start_bufs : iprop(Scr d ∗ Args d m ∗ bigSep Finset.univ (Cnt d) ∗ Xin d m ∗ (∃ f, ((d : Thread nD τ).loc cc0_stg1_0) ↦{fullShare} f)) ⊢ iprop(Mine d ∗ Bufs d m) := by
  unfold Scr Bufs
  iintro ⟨⟨H0, H1, H3, H4, H5, H6, H7, H8, H9, H10, H11, H12⟩, HA, HC, HX, ⟨%f, HO⟩⟩
  isplitl [H5 H6 H10 H12]
  · iapply (mine_intro d)
    isplitl [H5 H6]
    · isplitl [H5]; · iexact H5
      iexact H6
    isplitl [H10]; · iexact H10
    iexact H12
  isplitl [H0 H1 HA HC]
  · iapply (free_intro d m)
    isplitl [H0]; · iexact H0
    isplitl [H1]; · iexact H1
    isplitl [HA]; · iexact HA
    iexact HC
  isplitl [HX]; · iexact HX
  isplitl [H4]; · unfold full Xb; iexact H4
  isplitl [H3]; · unfold full Hb; iexact H3
  isplitl [HO]
  · obtain ⟨G, hG⟩ := exists_glue f
    iexists G
    unfold Out
    rw [← hG]
    iexact HO
  isplitl [H7 H8]
  · isplitl [H7]; · iapply (Entails.of_eq (anyOf_whole d cc0_scratch7).symm); iexact H7
    iapply (Entails.of_eq (anyOf_whole d cc0_scratch8).symm); iexact H8
  isplitl [H9]; · iapply (Entails.of_eq (anyOf_whole d cc0_scratch9).symm); iexact H9
  iapply (Entails.of_eq (anyOf_whole d cc0_scratch11).symm); iexact H11

/-- The reduce-scatter gives back the landing buffers. -/
theorem rs_back : Bs (RsP d) (fun _ => 2) ⊢ (iprop(bigSep Finset.univ (Rcv0 d) ∗ (slots d (commM 0) ∗ slots d (commM 1))) : sProp 𝕄) := by
  have h : Bs (RsP (F := F) d) (fun _ => 2) = iprop(bigSep Finset.univ (Rcv0 d) ∗ bigSep Finset.univ fun x : Fin 2 × Fin 3 => anyOf d (slotWin (commM x.1) x.2)) := by
    unfold Bs
    rw [← bigSep_sep']
    exact bigSep_congr fun x _ => sep_swap _ _ _
  rw [h]
  unfold slots
  iintro ⟨H, HS⟩
  isplitl [H]; · iexact H
  iapply (Entails.of_eq (bigSep_slots fun x : Fin 2 × Fin 3 => anyOf d (slotWin (commM x.1) x.2))); iexact HS

/-- The buffers of one direction of the all-gather, from its three hops. -/
theorem ag_dir (g : Fin 2) : iprop(AgP d m (g, 0) 4 ∗ AgP d m (g, 1) 4 ∗ AgP d m (g, 2) 4)
    ⊢ iprop((Rcv2 d (g, 0) ∗ Rcv2 d (g, 1) ∗ Rcv2 d (g, 2)) ∗ slots d (agM g) ∗ anyOf d (ag0M g)) := by
  have e1 : ownsV d (agSrc g 1) (lent 1) (hopv m d g 1) = ownsV d (slotWin (agM g) 0) fullShare.right (hopv m (from' d g) g 0) := by
    rw [hopv_succ m d g 0 1 rfl]; rfl
  have e2 : ownsV d (agSrc g 2) (lent 2) (hopv m d g 2) = ownsV d (slotWin (agM g) 1) fullShare.right (hopv m (from' d g) g 1) := by
    rw [hopv_succ m d g 1 2 rfl]; rfl
  have k0 : ∀ X, ownsV (F := F) d (slotWin (agM g) 0) (kept 0) X = ownsV d (slotWin (agM g) 0) fullShare.left X := fun _ => rfl
  have k1 : ∀ X, ownsV (F := F) d (slotWin (agM g) 1) (kept 1) X = ownsV d (slotWin (agM g) 1) fullShare.left X := fun _ => rfl
  have k2 : ∀ X, ownsV (F := F) d (slotWin (agM g) 2) (kept 2) X = ownsV d (slotWin (agM g) 2) fullShare X := fun _ => rfl
  have k3 : ∀ X, ownsV (F := F) d (agSrc g 0) (lent 0) X = ownsV d (ag0M g) fullShare X := fun _ => rfl
  unfold AgP slots Rcv2 Rcv
  dsimp only
  rw [e1, e2, k0, k1, k2, k3]
  iintro ⟨⟨⟨A0, S0, R0⟩, B0⟩, ⟨⟨A1, S1, R1⟩, B1⟩, ⟨⟨A2, S2, R2⟩, B2⟩⟩
  isplitl [S0 R0 S1 R1 S2 R2]
  · isplitl [S0 R0]
    · isplitl [S0]; · iexact S0
      iexact R0
    isplitl [S1 R1]
    · isplitl [S1]; · iexact S1
      iexact R1
    isplitl [S2]; · iexact S2
    iexact R2
  isplitr [A0]
  · isplitl [A1 B0]
    · iapply (ownsV_anyOf d (slotWin (agM g) 0) _)
      iapply (ownsV_join d (slotWin (agM g) 0) _)
      isplitl [B0]; · iexact B0
      iexact A1
    isplitl [A2 B1]
    · iapply (ownsV_anyOf d (slotWin (agM g) 1) _)
      iapply (ownsV_join d (slotWin (agM g) 1) _)
      isplitl [B1]; · iexact B1
      iexact A2
    iapply (ownsV_anyOf d (slotWin (agM g) 2) _); iexact B2
  iapply (ownsV_anyOf d (ag0M g) _); iexact A0

theorem ag_back : Bs (AgP d m) (fun _ => 4) ⊢ iprop(bigSep Finset.univ (Rcv2 d) ∗ (slots d (agM 0) ∗ slots d (agM 1)) ∗ (anyOf d (ag0M 0) ∗ anyOf d (ag0M 1))) := by
  unfold Bs
  rw [bigSep_slots, bigSep_slots]
  iintro ⟨H0, H1⟩
  ihave H0 := (ag_dir d m 0) $$ H0
  ihave H1 := (ag_dir d m 1) $$ H1
  icases H0 with ⟨C0, S0, A0⟩
  icases H1 with ⟨C1, S1, A1⟩
  isplitl [C0 C1]
  · isplitl [C0]; · iexact C0
    iexact C1
  isplitl [S0 S1]
  · isplitl [S0]; · iexact S0
    iexact S1
  isplitl [A0]; · iexact A0
  iexact A1

/-- Everything the launch lent comes back. -/
theorem done_back : Done d m ⊢ iprop((Xin d m ∗ (((d : Thread nD τ).loc cc0_stg1_0) ↦{fullShare} outv m d) ∗ Ow d [])
    ∗ (Args d m ∗ semVal (kcell (d, none)) 0) ∗ (bigSep Finset.univ (Cnt d) ∗ bigSep Finset.univ (Rcv d)) ∗ Scr d) := by
  unfold Done Scr
  rw [bigSep_Rcv]
  iintro ⟨HF, HX, HB, HH, HA, ⟨H7, H8⟩, HO, HR, HG, HV⟩
  ihave HF := (free_elim d m) $$ HF
  icases HF with ⟨H0, H1, HA', HC⟩
  ihave HR := (rs_back d) $$ HR
  icases HR with ⟨HR, HM, HM'⟩
  ihave HG := (ag_back d m) $$ HG
  icases HG with ⟨HG, ⟨HN, HN'⟩, ⟨H9, H11⟩⟩
  ihave HM := (mine_elim d) $$ [HM HM' HN HN']
  · unfold Mine
    isplitl [HM HN]
    · isplitl [HM]; · iexact HM
      iexact HN
    isplitl [HM']; · iexact HM'
    iexact HN'
  icases HM with ⟨⟨H5, H6⟩, H10, H12⟩
  isplitl [HX HA HO]
  · isplitl [HX]; · iexact HX
    isplitl [HA]; · unfold Out outv; iexact HA
    iexact HO
  isplitl [HA' HV]
  · isplitl [HA']; · iexact HA'
    iexact HV
  isplitl [HC HR HG]
  · isplitl [HC]; · iexact HC
    isplitl [HR]; · iexact HR
    iexact HG
  isplitl [H0]; · iexact H0
  isplitl [H1]; · iexact H1
  isplitl [HH]; · unfold full Hb; iexact HH
  isplitl [HB]; · unfold full Xb; iexact HB
  isplitl [H5]; · iexact H5
  isplitl [H6]; · iexact H6
  isplitl [H7]; · iapply (Entails.of_eq (anyOf_whole d cc0_scratch7)); iexact H7
  isplitl [H8]; · iapply (Entails.of_eq (anyOf_whole d cc0_scratch8)); iexact H8
  isplitl [H9]; · iapply (Entails.of_eq (anyOf_whole d cc0_scratch9)); iexact H9
  isplitl [H10]; · iexact H10
  isplitl [H11]; · iapply (Entails.of_eq (anyOf_whole d cc0_scratch11)); iexact H11
  iexact H12

end Cert.KernelIdeal.Ring
end
-- ==== Proof.KernelIdeal.Fund.lean ====
/-
What the launch deals the devices: the cells' invariants, each device's positions and tokens, and its credit.
-/
module

public import proofs.«01_k».proof.Proof.KernelIdeal.Ends

@[expose] public section

set_option maxRecDepth 16384

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (d : Dev nD) (m : (ℓ : Loc nD τ sig) → Buf (Elt F) ℓ) (κ : Dev nD × Key → ℕ)

/-! ## Sums over the keys -/

abbrev Y6 := Fin 2 × Fin 3
abbrev X24 := Fin 4 × Y6

omit [FloatOps F] in
theorem bigSep_option {A : Type} [Fintype A] (Φ : Option A → sProp 𝕄) :
    bigSep Finset.univ Φ = iprop((bigSep Finset.univ fun a => Φ (some a)) ∗ Φ none) := by
  rw [bigSep_univ_equiv (Equiv.optionEquivSumPUnit.{0} A).symm Φ, BI.bigSep_univ_sum]
  rw [show (Finset.univ : Finset PUnit.{1}) = {PUnit.unit} from rfl, bigSep_singleton]
  rfl
omit [FloatOps F] in
theorem bigSep_families (Φ : X24 → sProp 𝕄) :
    bigSep Finset.univ Φ = iprop((bigSep Finset.univ fun x : Y6 => Φ (0, x)) ∗ (bigSep Finset.univ fun x : Y6 => Φ (1, x))
      ∗ (bigSep Finset.univ fun x : Y6 => Φ (2, x)) ∗ (bigSep Finset.univ fun x : Y6 => Φ (3, x))) := by
  rw [bigSep_univ_prod, bigSep_fin4]

/-! ## The semaphores -/

/-- The kernel's own semaphores: those of the local transfers and those of the ring. -/
def osems : Y6 ⊕ X24 → SemLoc sig
  | .inl x => .dma (lSem x.1 x.2)
  | .inr x => osem (some x)
theorem ownSemFacts : Pipeline.OwnSemFacts cfg0.spec osems := by decide +kernel

omit [FloatOps F] in
theorem ownSems0_eq (c : Dev nD) : (Pipeline.ownSems0 (Ix := Unit) (Name := ℕ) (U := UU) (Lvl := ℕ) (Val := Elt F) (τ := τ) osems c : sProp 𝕄)
    = iprop(bigSep Finset.univ (Cnt c) ∗ bigSep Finset.univ (Rcv c)) := by
  unfold Pipeline.ownSems0
  rw [BI.bigSep_univ_sum]; rfl
omit [FloatOps F] in
theorem unscopedSems0_eq (c : Dev nD) : (unscopedSems0 c : sProp 𝕄) = semVal (kcell (c, none)) 0 := by
  unfold unscopedSems0; rw [bigSep_eq_bigSepL_of_eq [SemLoc.reg barS] (by decide +kernel) (by decide +kernel)]; rfl

/-! ## Cells and tokens -/

def ringCells : Finset (GSem nD τ sig) := Finset.univ.map ⟨kcell, kcell_injective⟩

/-- The duties: two of each barrier cell, one of every other. -/
def dutyOf : Dev nD × (Fin 2 ⊕ X24) → (Dev nD × Key) × Fin 2
  | (c, .inl g) => ((c, none), g)
  | (c, .inr x) => ((c, some x), 0)
theorem dutyOf_injective : Function.Injective dutyOf := by
  rintro ⟨c, g | x⟩ ⟨c', g' | x'⟩ h <;> simp only [dutyOf, Prod.mk.injEq, Option.some.injEq, reduceCtorEq, and_false, false_and, and_true, true_and] at h
  · rw [h.1, h.2]
  · rw [h.1, h.2]
abbrev tokOf (a : Dev nD × (Fin 2 ⊕ X24)) : GSem nD τ sig × ℕ × Fin 2 := (kcell (dutyOf a).1, 0, (dutyOf a).2)
theorem tokOf_injective : Function.Injective tokOf := fun a b h =>
  dutyOf_injective (Prod.ext (kcell_injective (congrArg (fun x : GSem nD τ sig × ℕ × Fin 2 => x.1) h)) (congrArg (fun x : GSem nD τ sig × ℕ × Fin 2 => x.2.2) h))
def ringToks : Finset (GSem nD τ sig × ℕ × Fin 2) := Finset.univ.map ⟨tokOf, tokOf_injective⟩

def u₀ : UU :=
  (initOf (Pipeline.cells cfgs cellOf_inj) (Pipeline.launchToks cfgs cellOf_inj), (initOf ringCells ringToks, 1))

variable (m : (ℓ : Loc nD τ sig) → Buf (Elt F) ℓ)

/-- The tokens of the duties of `c`'s own cells. -/
def toks (c : Dev nD) : sProp 𝕄 :=
  iprop((dutyTok ER (kcell (c, none)) 0 0 ∗ dutyTok ER (kcell (c, none)) 0 1) ∗ bigSep Finset.univ fun x : X24 => dutyTok ER (kcell (c, some x)) 0 0)
/-- `c`'s positions. -/
def poss (c : Dev nD) : sProp 𝕄 := bigSep Finset.univ fun k : Key => atPos ER (kcell (c, k)) 0 ∅ 0
def G (c : Dev nD) : sProp 𝕄 :=
  iprop((bigSep Finset.univ fun k : Key => roundState ER (ringRd m) (kcell (c, k)) 0)
    ∗ (poss c ∗ bigSep Finset.univ fun k : Key => reached ER (kcell (c, k)) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Key => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [BI.bigSep_univ_sum, bigSep_univ_two]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat' Hr']
  · isplitl [Hat'] <;> iassumption
  iexact Htok'

/-- One device: its ring cells' invariants made, its local transfers' counters kept. -/
theorem core_alloc (c : Dev nD) :
    iprop(Pipeline.ownSems0 (Ix := Unit) (Name := ℕ) (U := UU) (Lvl := ℕ) (Val := Elt F) (τ := τ) osems c ∗ unscopedSems0 c ∗ G m c)
      ⊢ |={Set.univ}=> iprop((bigSep Finset.univ fun k : Key => iprop(∃ κ : ℕ, cellInv ER (ringRd m) κ (kcell (c, k))))
          ∗ (bigSep Finset.univ fun k : Key => reached ER (kcell (c, k)) 0) ∗ toks c ∗ poss c ∗ bigSep Finset.univ (Cnt c)) := by
  have hv : iprop(bigSep Finset.univ (Rcv c) ∗ semVal (kcell (c, none)) 0) ⊢ (bigSep Finset.univ fun k : Key => semVal (kcell (c, k)) 0 : sProp 𝕄) :=
    Entails.of_eq (bigSep_option (fun k : Key => (semVal (kcell (c, k)) 0 : sProp 𝕄))).symm
  have ha : iprop((bigSep Finset.univ fun k : Key => semVal (kcell (c, k)) 0) ∗ bigSep Finset.univ fun k : Key => roundState ER (ringRd m) (kcell (c, k)) 0)
      ⊢ (|={Set.univ}=> bigSep Finset.univ fun k : Key => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  rw [ownSems0_eq, unscopedSems0_eq]
  unfold G
  iintro ⟨⟨Hc, Hr⟩, Hb, Hst, ⟨Hat, Hre⟩, Htok⟩
  ihave Hv := hv $$ [Hr Hb]
  · isplitl [Hr] <;> iassumption
  imod ha $$ [Hv Hst] with Hinv
  · isplitl [Hv] <;> iassumption
  imodintro
  isplitl [Hinv]; · iexact Hinv
  isplitl [Hre]; · iexact Hre
  isplitl [Htok]; · iexact Htok
  isplitl [Hat] <;> iassumption

/-! ## Tokens around the ring -/

/-- Direction `g`, as a permutation of the devices. -/
def dirE (g : Fin 2) : Dev nD ≃ Dev nD := ⟨fun c => peer c g, fun c => from' c g, fun c => from_peer c g, fun c => peer_from c g⟩
/-- Who pays a cell's duty: a receiving cell's the neighbour, a sending cell's the device itself. -/
def payTo (x : X24) : Dev nD ≃ Dev nD := match x.1 with
  | 0 => Equiv.refl _ | 1 => dirE x.2.1 | 2 => Equiv.refl _ | 3 => dirE x.2.1
def payToks (c : Dev nD) : sProp 𝕄 :=
  iprop((dutyTok ER (kcell (peer c 1, none)) 0 0 ∗ dutyTok ER (kcell (peer c 0, none)) 0 1)
    ∗ bigSep Finset.univ fun x : X24 => dutyTok ER (kcell (payTo x c, some x)) 0 0)

omit [FloatOps F] in
theorem toks_around : (bigSep Finset.univ fun c : Dev nD => (toks c : sProp 𝕄)) ⊢ bigSep Finset.univ fun c : Dev nD => payToks c := by
  unfold toks payToks
  simp only [bigSep_sep']
  rw [bigSep_univ_comm (fun (c : Dev nD) (x : X24) => (dutyTok ER (kcell (c, some x)) 0 0 : sProp 𝕄)),
    bigSep_univ_comm (fun (c : Dev nD) (x : X24) => (dutyTok ER (kcell (payTo x c, some x)) 0 0 : sProp 𝕄)),
    bigSep_univ_equiv (dirE 1) (fun c : Dev nD => (dutyTok ER (kcell (c, none)) 0 0 : sProp 𝕄)),
    bigSep_univ_equiv (dirE 0) (fun c : Dev nD => (dutyTok ER (kcell (c, none)) 0 1 : sProp 𝕄)),
    bigSep_congr (s := Finset.univ) (fun (x : X24) _ => bigSep_univ_equiv (payTo x) (fun c : Dev nD => (dutyTok ER (kcell (c, some x)) 0 0 : sProp 𝕄)))]
  iintro H
  iexact H

/-- What device `c` is dealt. -/
def G' (c : Dev nD) : sProp 𝕄 := iprop((∃ κ, records m κ) ∗ payToks c ∗ poss c ∗ bigSep Finset.univ (Cnt c))

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem records_intro (κ : Dev nD × Key → ℕ) :
    iprop((bigSep Finset.univ fun ck : Dev nD × Key => cellInv ER (ringRd m) (κ ck) (kcell ck)) ∗ bigSep Finset.univ fun ck : Dev nD × Key => reached ER (kcell ck) 0)
      ⊢ records m κ := by
  unfold records; rw [bigSep_sep']

theorem dealt (κ : Dev nD × Key → ℕ) (c : Dev nD) : iprop(records m κ ∗ (payToks c ∗ poss c ∗ bigSep Finset.univ (Cnt c))) ⊢ G' m c := by
  unfold G'
  iintro ⟨HR, H⟩
  isplitl [HR]
  · iexists κ; iexact HR
  iexact H

theorem regroup :
    (bigSep Finset.univ fun c : Dev nD => iprop((bigSep Finset.univ fun k : Key => iprop(∃ κ : ℕ, cellInv ER (ringRd m) κ (kcell (c, k))))
          ∗ (bigSep Finset.univ fun k : Key => reached ER (kcell (c, k)) 0) ∗ toks c ∗ poss c ∗ bigSep Finset.univ (Cnt c)) : sProp 𝕄)
      ⊢ bigSep Finset.univ (G' m) := by
  rw [bigSep_sep', bigSep_sep', bigSep_sep', ← bigSep_univ_prod (fun ck : Dev nD × Key => iprop(∃ κ : ℕ, cellInv ER (ringRd m) κ (kcell ck))),
    ← bigSep_univ_prod (fun ck : Dev nD × Key => (reached ER (kcell ck) 0 : sProp 𝕄))]
  iintro ⟨HI, HR, Htok, Hrest⟩
  ihave HK := (BI.bigSep_exists_pi Finset.univ (fun (ck : Dev nD × Key) (κ : ℕ) => (cellInv ER (ringRd m) κ (kcell ck) : sProp 𝕄))) $$ HI
  icases HK with ⟨%κ, HI⟩
  ihave Htk := (toks_around (F := F)) $$ Htok
  iapply (bigSep_with (R := records m κ) fun c _ => dealt m κ c)
  isplitl [HI HR]
  · iapply (records_intro m κ); isplitl [HI] <;> iassumption
  · iapply (Entails.of_eq (bigSep_sep' Finset.univ (fun c : Dev nD => (payToks c : sProp 𝕄)) (fun c => iprop(poss c ∗ bigSep Finset.univ (Cnt c)))).symm)
    isplitl [Htk]; · iexact Htk
    iexact Hrest

theorem glob : (bigSep Finset.univ fun c => iprop(Pipeline.ownSems0 (Ix := Unit) (Name := ℕ) (U := UU) (Lvl := ℕ) (Val := Elt F) (τ := τ) osems c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

/-- How many units all devices together owe a cell. -/
theorem owe_apply (l : List (Dev nD × Key)) (ck : Dev nD × Key) : owe l (kcell ck) () = l.count ck * amt ck.2 := by
  induction l with
  | nil => rw [List.count_nil, Nat.zero_mul]; rfl
  | cons a l ih =>
    unfold owe
    rw [Pi.add_apply, Finsupp.add_apply, tallyAt_apply, ih]
    by_cases h : ck = a
    · subst h; rw [if_pos ⟨rfl, rfl⟩, List.count_cons_self, Nat.succ_mul]
    · rw [if_neg (fun h' => h (kcell_injective h'.1)), List.count_cons_of_ne (fun h' => h h'.symm)]; rfl

def O₀ (d : Dev nD) : CellTallies nD τ sig Unit := owe (allL d)

theorem count_none : ∀ c : Dev nD, ∑ d : Dev nD, (allL d).count (c, none) = 2 := by decide +kernel
theorem count_rs : ∀ (c : Dev nD) (x : Y6), ∑ d : Dev nD, (allL d).count (c, some (1, x)) = 1 := by decide +kernel
theorem count_ag : ∀ (c : Dev nD) (x : Y6), ∑ d : Dev nD, (allL d).count (c, some (3, x)) = 1 := by decide +kernel

theorem launch_cell (c : Dev nD) (k : Key) (n : ℕ) (h : ∑ d : Dev nD, (allL d).count (c, k) = n) :
    tallyOn (kcell (c, k)) (launchCredit (Pipeline.owing O₀) 0 (kcell (c, k))) = (tallyAt (kcell (c, k)) () (n * amt k) : CellTallies nD τ sig Unit) := by
  unfold tallyAt; refine congrArg _ (Finsupp.ext fun u => ?_); cases u
  rw [Pipeline.launchCredit_owing, Finsupp.single_eq_same]
  refine (Finset.sum_congr rfl fun d _ => owe_apply (allL d) (c, k)).trans ?_
  rw [← Finset.sum_mul, h]

/-- A device's credit: two units of its barrier, one block of each receiving cell. -/
def creds (c : Dev nD) : sProp 𝕄 :=
  iprop(cred (tallyAt (kcell (c, none)) () 2) ∗ (bigSep Finset.univ fun x : Y6 => cred (tallyAt (kcell (c, some (1, x))) () N))
    ∗ (bigSep Finset.univ fun x : Y6 => cred (tallyAt (kcell (c, some (3, x))) () N)))

omit [FloatOps F] in
theorem creds_intro (c : Dev nD) : (Pipeline.launchCred O₀ c : sProp 𝕄) ⊢ creds c := by
  unfold Pipeline.launchCred creds
  refine (BI.bigSep_subset (t := Finset.univ.map ⟨osem, osem_injective⟩) (Finset.subset_univ _)).trans ?_
  rw [BI.bigSep_map, bigSep_option, bigSep_families]
  have h0 : (cred (tallyOn (kcell (c, none)) (launchCredit (Pipeline.owing O₀) 0 (kcell (c, none)))) : sProp 𝕄) = cred (tallyAt (kcell (c, none)) () 2) := by
    rw [launch_cell c none 2 (count_none c)]; rfl
  have h1 (x : Y6) : (cred (tallyOn (kcell (c, some (1, x))) (launchCredit (Pipeline.owing O₀) 0 (kcell (c, some (1, x))))) : sProp 𝕄) = cred (tallyAt (kcell (c, some (1, x))) () N) := by
    rw [launch_cell c (some (1, x)) 1 (count_rs c x), Nat.one_mul]; rfl
  have h3 (x : Y6) : (cred (tallyOn (kcell (c, some (3, x))) (launchCredit (Pipeline.owing O₀) 0 (kcell (c, some (3, x))))) : sProp 𝕄) = cred (tallyAt (kcell (c, some (3, x))) () N) := by
    rw [launch_cell c (some (3, x)) 1 (count_ag c x), Nat.one_mul]; rfl
  rw [← h0, ← bigSep_congr (s := Finset.univ) (fun (x : Y6) _ => h1 x), ← bigSep_congr (s := Finset.univ) (fun (x : Y6) _ => h3 x)]
  have h (A B C D E : sProp 𝕄) : iprop((A ∗ B ∗ C ∗ D) ∗ E) ⊢ iprop(E ∗ B ∗ D) := by
    iintro ⟨⟨-, HA, -, HB⟩, H0⟩
    isplitl [H0]; · iexact H0
    isplitl [HA]; · iexact HA
    iexact HB
  exact h _ _ _ _ _

/-! ## A device's part -/

omit [FloatOps F] in
theorem part_intro (d : Dev nD) : iprop(payToks d ∗ poss d ∗ creds d) ⊢ (Part d : sProp 𝕄) := by
  have hR : bigSep Finset.univ (RsG d) = (iprop((bigSep Finset.univ fun x : Y6 => dutyTok ER (kcell (d, some (0, x))) 0 0)
      ∗ (bigSep Finset.univ fun x : Y6 => dutyTok ER (kcell (peer d x.1, some (1, x))) 0 0)
      ∗ (bigSep Finset.univ fun x : Y6 => atPos ER (kcell (d, some (0, x))) 0 ∅ 0) ∗ (bigSep Finset.univ fun x : Y6 => atPos ER (kcell (d, some (1, x))) 0 ∅ 0)
      ∗ bigSep Finset.univ fun x : Y6 => cred (tallyAt (kcell (d, some (1, x))) () N)) : sProp 𝕄) := by
    rw [← bigSep_sep', ← bigSep_sep', ← bigSep_sep', ← bigSep_sep']; rfl
  have hA : bigSep Finset.univ (AgG d) = (iprop(((bigSep Finset.univ fun x : Y6 => dutyTok ER (kcell (d, some (2, x))) 0 0)
      ∗ (bigSep Finset.univ fun x : Y6 => dutyTok ER (kcell (peer d x.1, some (3, x))) 0 0))
      ∗ (bigSep Finset.univ fun x : Y6 => atPos ER (kcell (d, some (2, x))) 0 ∅ 0) ∗ (bigSep Finset.univ fun x : Y6 => atPos ER (kcell (d, some (3, x))) 0 ∅ 0)
      ∗ bigSep Finset.univ fun x : Y6 => cred (tallyAt (kcell (d, some (3, x))) () N)) : sProp 𝕄) := by
    rw [← bigSep_sep', ← bigSep_sep', ← bigSep_sep', ← bigSep_sep']; rfl
  unfold Part payToks poss creds
  rw [hR, hA, bigSep_option, bigSep_families, bigSep_families]
  iintro ⟨⟨Hb, T0, T1, T2, T3⟩, ⟨⟨P0, P1, P2, P3⟩, Pn⟩, C0, C1, C3⟩
  isplitl [Hb]; · iexact Hb
  isplitl [C0 Pn]
  · isplitl [C0]; · iexact C0
    iexact Pn
  isplitl [T0 T1 P0 P1 C1]
  · isplitl [T0]; · iexact T0
    isplitl [T1]; · iexact T1
    isplitl [P0]; · iexact P0
    isplitl [P1]; · iexact P1
    iexact C1
  isplitl [T2 T3]
  · isplitl [T2]; · iexact T2
    iexact T3
  isplitl [P2]; · iexact P2
  isplitl [P3]; · iexact P3
  iexact C3

end Cert.KernelIdeal.Ring
end
-- ==== Proof.KernelIdeal.Body.lean ====
/-
The generated body is the structured program: operation by operation.
-/
module

public import proofs.«01_k».proof.Proof.KernelIdeal.Prog

@[expose] public section

set_option maxRecDepth 65536

noncomputable section

namespace Cert.KernelIdeal.Ring

open Idealize.ShloMosaic Idealize.SL.Sem Cert.KernelIdeal Cert.KernelIdeal.Gen

variable {F : FTy → Type} [FloatOps F]

/-- Programs that start with one operation and go on alike are equal. -/
theorem op_congr {E : Type → Type} {α β : Type} (e : E β) {k k' : β → Prog E α} (h : ∀ x, k x = k' x) :
    Prog.op e k = Prog.op e k' := congrArg (Prog.op e) (funext h)

set_option maxHeartbeats 4000000 in
theorem body_eq : (bodyAt0 (F := F) ⟨0, by decide⟩) = prog (F := F) := by
  repeat refine op_congr _ (fun x => ?_)
  rfl

end Cert.KernelIdeal.Ring
end
-- ==== Proof.KernelIdeal.Launch.lean ====
/-
The run of the kernel: from any memory, every device's result holds `outv`, the arguments are unchanged and every
counter is at zero.
-/
module

public import proofs.«01_k».proof.Proof.KernelIdeal.Fund
public import proofs.«01_k».proof.Proof.KernelIdeal.Body
public import Idealize.ShloMosaic.Lib.Pipeline.CollectiveSegs
public import Idealize.ShloMosaic.Lib.Pipeline.ValueKit

@[expose] public section

set_option maxRecDepth 200000

noncomputable section

namespace Cert.KernelIdeal.Ring

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

theorem cfg0_N : cfg0.N = 1 := by decide
def t₀ : Fin cfg0.N := ⟨0, by decide⟩
theorem fin_N (t : Fin cfg0.N) : t = t₀ := by
  obtain ⟨t, ht⟩ := t; have := cfg0_N; exact Fin.ext (by simp only [t₀]; omega)

/-- What a device's body starts from. -/
def startX (c : Dev nD) : sProp 𝕄 := iprop(((∃ κ, records m κ) ∗ Part c) ∗ bigSep Finset.univ (Cnt c) ∗ levAts L lv ∗ Args c m)
def Φ₀ (c : Dev nD) : sProp 𝕄 := iprop(startX m c ∗ Scr c)
/-- What it leaves. -/
def Φ₁ (c : Dev nD) : sProp 𝕄 :=
  iprop((Args c m ∗ semVal (kcell (c, none)) 0) ∗ (bigSep Finset.univ (Cnt c) ∗ bigSep Finset.univ (Rcv c)) ∗ Scr c)

def dats (_ : Fin 1) (c : Dev nD) : Dat τ (Elt F) Unit ℕ UU ℕ cfg0 c where
  A w := m ((cfg0.win w).arr.view.loc (c : Thread nD τ))
  after w _ := match w with
    | ⟨0, _⟩ => xv m c
    | ⟨1, _⟩ => outv m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))
def bodyPost (c : Dev nD) : sProp 𝕄 :=
  iprop(Φ₁ m c ∗ (dats m 0 c).owesAt () t₀.succ ∗ stg c cc0_stg0_0 (xv m c) ∗ stg c cc0_stg1_0 (outv m c))

theorem body_spec (c : Dev nD) : bodyPre m c ⊢ WP c (prog (F := F)) (fun _ => bodyPost m c) := by
  have ho : (dats m 0 c).owed t₀.castSucc = owe (allL c) := rfl
  have ho' : (dats m 0 c).owed t₀.succ = owe [] := rfl
  have hx : ∀ d, (dats m 0 c).before (0 : Fin 2) t₀ d = xv m c := fun d => by
    unfold Dat.before; rw [if_pos (fetch0_0 t₀)]; rfl
  have hd := done_back c m
  have hs := start_bufs c m
  unfold bodyPre bodyPost Φ₀ Φ₁ startX Dat.owesAt Pipeline.owesWithin
  rw [ho, ho']
  iintro ⟨⟨⟨⟨⟨%κ, HR⟩, HP⟩, HC, #HL, HA⟩, HS⟩, ⟨%W, %hW, HO⟩, ⟨%d0, %g0, %hg0, Hx⟩, ⟨%d1, %g1, %hg1, Ho⟩⟩
  have hx0 : g0 = xv m c := hg0.trans (hx d0)
  subst hx0
  ihave HB := hs $$ [HS HA HC Hx Ho]
  · isplitl [HS]; · iexact HS
    isplitl [HA]; · iexact HA
    isplitl [HC]; · iexact HC
    isplitl [Hx]; · unfold Xin; iexact Hx
    iexists g1; iexact Ho
  icases HB with ⟨HM, HB⟩
  iapply (prog_spec c m κ _)
  isplitl [HR HP HO HM HB]
  · isplitl [HR]; · iexact HR
    isplitl [HO]
    · unfold Ow; isplitr; · iexact HL
      iexists W; iexact HO
    isplitl [HM]; · iexact HM
    isplitl [HP] <;> iassumption
  iintro HD
  ihave HD := hd $$ HD
  unfold Ow Xin
  icases HD with ⟨⟨Hx, Ho, -, ⟨%W', HO⟩⟩, HA, HC, HS⟩
  isplitl [HA HC HS]
  · isplitl [HA]; · iexact HA
    isplitl [HC] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Ho

theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre m c ⊢ WP c (bodyAt0 (F := F) ⟨0, by decide⟩) (fun _ => bodyPost m c)
  rw [body_eq]
  exact body_spec m c

/-! ## The launch's side conditions -/

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(startX m c ∗ emp) := by
  have hA : Pipeline.unscopedRestP (Ix := Unit) (Name := ℕ) (U := UU) (Lvl := ℕ) Pipeline.Prefetch.none cfg0.spec c (fun b => m ((c : Thread nD τ).loc b)) = (Args c m : sProp 𝕄) := by
    rw [Pipeline.unscopedRestP_none]; exact unscopedRest0_eq c _
  rw [hA]
  unfold startX G'
  iintro ⟨HA, Hlev, Hcr, -, HR, HT, HP, HC⟩
  ihave Hc := (creds_intro (F := F) c) $$ Hcr
  ihave HQ := (part_intro (F := F) c) $$ [HT HP Hc]
  · isplitl [HT]; · iexact HT
    isplitl [HP] <;> iassumption
  imodintro
  isplitl
  · isplitl [HR HQ]
    · isplitl [HR] <;> iassumption
    isplitl [HC]; · iexact HC
    isplitl [Hlev] <;> iassumption
  · iempintro

theorem phi0_intro (c : Dev nD) :
    iprop(startX m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(startX m c ∗ Scr c) from rfl, ← scr_eq]
  iintro ⟨Hs, -, Hr⟩
  isplitl [Hs]; · iexact Hs
  iexact Hr

theorem phi1_exit (c : Dev nD) :
    (dats m 0 c).Φ (Fin.last cfg0.N) ⊢ iprop((Args c m ∗ unscopedSems0 c) ∗ Pipeline.ownSems0 osems c ∗ Pipeline.scopedRest cfg0.spec c) := by
  rw [show (dats m 0 c).Φ (Fin.last cfg0.N) = Φ₁ m c from rfl, ownSems0_eq, unscopedSems0_eq]
  have h : (Pipeline.scopedRest cfg0.spec c : sProp 𝕄) = Scr c := scr_eq c
  rw [h]
  exact Entails.refl _

omit [FloatOps F] in
theorem stage_level : ∀ (w : Fin cfg0.W) (s : Fin (cfg0.win w).nbuf), lvS (SemLoc.dma ((cfg0.win w).sem s)) = 0 := by decide +kernel

theorem launch_waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ (allL c) fun ck h => by
        rw [show lvS (SemLoc.dma ((cfg0.win w).sem s)) = 0 from stage_level w s]; exact lv_allL c ck h
    · exact mayWait c _ [] fun ck h => absurd h List.not_mem_nil

/-! ## The run -/

/-- The arguments the kernel copies itself. -/
def restArgs : List (Ref sig .tc) := [main_arg1, main_arg2, main_arg3]

theorem args_read (c : Dev nD) (s' : Phys nD τ sig (Elt F)) :
    iprop(Args c m ∗ SI s') ⊢ (iprop(⌜∀ b ∈ restArgs, s'.mem.mem ((c : Thread nD τ).loc b) = m ((c : Thread nD τ).loc b)⌝ ∗ SI s') : sProp 𝕄) := by
  have h := pointsTo_read_all (Ix := Unit) (Name := ℕ) (U := UU) (Lvl := ℕ) (Finset.univ : Finset (Fin 3))
    (fun i => (c : Thread nD τ).loc (![main_arg1, main_arg2, main_arg3] i)) (fun i => m ((c : Thread nD τ).loc (![main_arg1, main_arg2, main_arg3] i))) s'
  rw [bigSep_fin3] at h
  refine (show _ ⊢ _ from h).trans (sep_mono_left (BI.pure_mono fun h b hb => ?_))
  simp only [restArgs, List.mem_cons, List.not_mem_nil, or_false] at hb
  rcases hb with rfl | rfl | rfl
  exacts [h 0 (Finset.mem_univ _), h 1 (Finset.mem_univ _), h 2 (Finset.mem_univ _)]

def QC (r : PUnit × MemSt nD τ sig (Elt F)) : Prop :=
  ∀ c : Dev nD, (∀ w : Fin cfg0.W, r.2.mem ((cfg0.win w).arr.view.loc (c : Thread nD τ)) = (dats m 0 c).arrAt w cfg0.N)
    ∧ ∀ b ∈ restArgs, r.2.mem ((c : Thread nD τ).loc b) = m ((c : Thread nD τ).loc b)

omit [FloatOps F] in
theorem own_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

theorem run_main (ρ : Dev nD → PrngReg) :
    θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := launch_waits m)
    (G := G m) (G' := G' m) (u₀ := u₀)
    (hu₀ := by
      unfold u₀
      iintro Hu
      ihave H := (own_split (F := F) _ _) $$ Hu
      icases H with ⟨HP, HX⟩
      imod (fund_ring m) $$ HX with HG
      imodintro
      isplitl [HP] <;> iassumption)
    (hglob := glob m)
    (hA := fun _ _ => rfl) (hpf := fun _ k => k.elim0)
    (X := startX m) (Y := fun c => iprop(Args c m ∗ unscopedSems0 c)) (Z := fun _ => iprop(emp))
    (hX := start_intro m ρ) (hin := phi0_intro m) (hout := phi1_exit m)
    (QY := fun c s => (∀ b ∈ restArgs, s.mem ((c : Thread nD τ).loc b) = m ((c : Thread nD τ).loc b))
      ∧ ∀ sm : SemLoc sig, sm.isScoped .tc = false → s.sem ((c.tc : Thread nD τ), sm) = 0)
    (hY := fun c s' => by
      iintro ⟨⟨HA, Hu⟩, -, HSI⟩
      ihave H := (args_read m c s') $$ [HA HSI]
      · isplitl [HA] <;> iassumption
      icases H with ⟨%hA, HSI⟩
      imod (Pipeline.unscopedSems0_read (X := unscopedSems0 c) (c := c) fupd_intro s') $$ [Hu HSI] with ⟨%hS, HSI⟩
      · isplitl [Hu] <;> iassumption
      imodintro
      isplitr
      · ipureintro; exact ⟨hA, hS⟩
      iexact HSI)
    (hQ := fun _ h hs => ⟨fun c => ⟨fun w => (h c).1 w, (h c).2.2.1⟩, sem_eq_zero hs fun c => (h c).2.2.2⟩)

/-- The `x` array after the run. -/
theorem final_x (c : Dev nD) : (dats m 0 c).arrAt (0 : Fin 2) cfg0.N = m ((c : Thread nD τ).loc main_arg0) :=
  (dats (F := F) m 0 c).arrAt_in (0 : Fin 2) rfl _
/-- The result after the run. -/
theorem final_out (c : Dev nD) : (dats m 0 c).arrAt (1 : Fin 2) cfg0.N = outv m c :=
  (dats (F := F) m 0 c).arrAt_eq_of_after_last (1 : Fin 2) t₀ (by decide +kernel) _ (fun j => rfl) (Memref.isWhole_whole _)

/-- Every device ends with `outv` as its result, its arguments unchanged and the counters at zero. -/
theorem run_value (ρ : Dev nD → PrngReg) :
    θ_run defs (onTc (τ := τ) (main (F := F))) ⟨m, fun _ => 0, ρ⟩ (fun r => (∀ c : Dev nD,
      r.2.mem ((c.tc : Thread nD τ).loc main_v1) = outv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨((h.1 c).1 (1 : Fin 2)).trans (final_out m c), ((h.1 c).1 (0 : Fin 2)).trans (final_x m c),
    (h.1 c).2 main_arg1 (by simp [restArgs]), (h.1 c).2 main_arg2 (by simp [restArgs]), (h.1 c).2 main_arg3 (by simp [restArgs])⟩, h.2⟩) (run_main m ρ)

end Cert.KernelIdeal.Ring
end
-- ==== Proof.Math.Sums.lean ====
/-
Two facts about the extended reals: a quotient by one plus an exponential, and a sum taken tile by tile.
-/
module

public import Idealize.ShloMosaic.PureOps.Ideal
public import Idealize.ShloMosaic.PureOps.Ideal.Laws

@[expose] public section

noncomputable section

namespace Cert.Math

open Idealize.ShloMosaic

theorem exp_nonneg (x : EReal) : 0 ≤ Ideal.exp x := by
  induction x with
  | bot => exact le_refl _
  | top => exact le_top
  | coe r => rw [Ideal.exp_coe]; exact EReal.coe_nonneg.mpr (Real.exp_pos r).le

theorem one_add_exp_ne_zero (x : EReal) : (1 : EReal) + Ideal.exp x ≠ 0 := fun h => by
  have h1 : (1 : EReal) ≤ 1 + Ideal.exp x := le_add_of_nonneg_right (exp_nonneg x)
  rw [h] at h1
  exact absurd h1 (not_le.mpr zero_lt_one)

/-- Multiplying by the logistic function is dividing by one plus the exponential of the negative. -/
theorem mul_logistic (u : EReal) : u * Ideal.logistic u = Ideal.div u (1 + Ideal.exp (-u)) := by
  unfold Ideal.logistic Ideal.div
  rw [if_neg (one_add_exp_ne_zero _), if_neg (one_add_exp_ne_zero _), one_mul]

/-- A sum over `a * n` positions is the sum over `a` tiles of the sums over their `n` positions. -/
theorem tile_sum {a n N : ℕ} (h : a * n = N) (f : Fin N → EReal) :
    ∑ k : Fin N, f k = ∑ t : Fin a, ∑ j : Fin n, f ⟨n * t.val + j.val, by
      have h1 : n * t.val + n ≤ n * a := by rw [← Nat.mul_succ]; exact Nat.mul_le_mul_left n t.isLt
      have := j.isLt; rw [← h, Nat.mul_comm a n]; omega⟩ := by
  subst h
  rw [← Fintype.sum_prod_type', ← Equiv.sum_comp finProdFinEquiv]
  refine Finset.sum_congr rfl fun x _ => congrArg f (Fin.ext ?_)
  rw [finProdFinEquiv_apply_val]; exact Nat.add_comm _ _

/-- The first `k` tiles of a sum. -/
theorem sum_tiles_succ {n : ℕ} (T : Fin n → EReal) (t : Fin n) :
    (∑ s ∈ Finset.univ.filter (fun s : Fin n => s.val < t.val + 1), T s) = (∑ s ∈ Finset.univ.filter (fun s : Fin n => s.val < t.val), T s) + T t := by
  have e : Finset.univ.filter (fun s : Fin n => s.val < t.val + 1) = insert t (Finset.univ.filter (fun s : Fin n => s.val < t.val)) := by
    ext s; simp only [Finset.mem_filter, Finset.mem_univ, true_and, Finset.mem_insert, Fin.ext_iff]; omega
  rw [e, Finset.sum_insert (by simp), add_comm]
theorem sum_tiles_all {n : ℕ} (T : Fin n → EReal) :
    (∑ s ∈ Finset.univ.filter (fun s : Fin n => s.val < n), T s) = ∑ s, T s := by
  congr 1; ext s; simp

end Cert.Math
end
-- ==== Proof.KernelIdeal.Value.lean ====
/-
What the ring leaves at the ideal values: each entry of the result is the sum over the devices of the
products of that device's hidden rows with its rows of the down weight.
-/
module

public import proofs.«01_k».proof.Proof.KernelIdeal.Vals
public import proofs.«01_k».proof.Proof.Math.Sums
public import Idealize.ShloMosaic.Lib.MatmulPlain

@[expose] public section

set_option maxRecDepth 16384

noncomputable section

namespace Cert.KernelIdeal.Ring

open Idealize.ShloMosaic Cert.KernelIdeal Cert.KernelIdeal.Gen Cert.Math
open Idealize.ShloMosaic.TcCoe

/-! ## The hidden rows -/

/-- One entry of the hidden rows: the gate times the up projection times its logistic function. -/
def hidAt (x : Vec Ideal S1536x1536 .bf16) (G U : Vec Ideal S1536x3072 .f32) (a : Fin 1536) (k : Fin 3072) : EReal :=
  (∑ l : Fin 1536, x (ix2 a l) * G (ix2 l k))
    * ((∑ l : Fin 1536, x (ix2 a l) * U (ix2 l k)) * Ideal.logistic (∑ l : Fin 1536, x (ix2 a l) * U (ix2 l k)))

theorem proj_apply (x : Vec Ideal S768x1536 .bf16) (w : Vec Ideal S1536x256 .f32) (a : Fin 768) (b : Fin 256) :
    matmul (φ₁ := .bf16) dot_S768x1536_S1536x256_S768x256_1_0_0_1_n_n none x (truncf .bf16 w bitsLt_bf16_f32) (constant (F := Ideal) S768x256 .f32 0x00000000#32) (ix2 a b)
      = ∑ l : Fin 1536, x (ix2 a l) * w (ix2 l b) := by
  refine (Ideal.matmul_plain_apply (M := 768) (K := 1536) (N := 256) none x w _ a b).trans ?_
  exact (congrArg (fun z : EReal => z + _) Ideal.ofBits_zero_f32).trans (zero_add _)

theorem hT_apply (x : Vec Ideal S768x1536 .bf16) (wg wu : Vec Ideal S1536x256 .f32) (a : Fin 768) (b : Fin 256) :
    hT x wg wu (ix2 a b)
      = (∑ l : Fin 1536, x (ix2 a l) * wg (ix2 l b))
        * ((∑ l : Fin 1536, x (ix2 a l) * wu (ix2 l b)) * Ideal.logistic (∑ l : Fin 1536, x (ix2 a l) * wu (ix2 l b))) := by
  unfold hT
  rw [shapeCast_self, ← proj_apply x wg a b, ← proj_apply x wu a b]
  rfl

theorem xRows_apply (xb : Vec Ideal S1536x1536 .bf16) (r : Fin 2) (a : Fin 768) (l : Fin 1536) :
    xRows xb r (ix2 a l) = xb (ix2 ⟨768 * r.val + a.val, by omega⟩ l) := by
  unfold xRows
  congr 1
  funext i; fin_cases i
  · exact Fin.ext (ValueKit.rect_emb_unit_val _ _ _ _ _)
  · exact Fin.ext ((ValueKit.rect_emb_unit_val _ _ _ _ _).trans (Nat.zero_add _))

theorem cols_apply (X : Vec Ideal S1536x3072 .f32) (t : Fin 12) (l : Fin 1536) (b : Fin 256) :
    cols X t (ix2 l b) = X (ix2 l ⟨256 * t.val + b.val, by omega⟩) := by
  unfold cols
  congr 1
  funext i; fin_cases i
  · exact Fin.ext ((ValueKit.rect_emb_unit_val _ _ _ _ _).trans (Nat.zero_add _))
  · exact Fin.ext (ValueKit.rect_emb_unit_val _ _ _ _ _)

theorem hid_apply (xb : Vec Ideal S1536x1536 .bf16) (G U : Vec Ideal S1536x3072 .f32) (a : Fin 1536) (k : Fin 3072) :
    hid xb G U (ix2 a k) = hidAt xb G U a k := by
  obtain ⟨r, p, rfl⟩ : ∃ (r : Fin 2) (p : Fin 768), a = ⟨768 * r.val + p.val, by omega⟩ :=
    ⟨⟨a.val / 768, by omega⟩, ⟨a.val % 768, by omega⟩, Fin.ext (by dsimp only; omega)⟩
  obtain ⟨t, q, rfl⟩ : ∃ (t : Fin 12) (q : Fin 256), k = ⟨256 * t.val + q.val, by omega⟩ :=
    ⟨⟨k.val / 256, by omega⟩, ⟨k.val % 256, by omega⟩, Fin.ext (by dsimp only; omega)⟩
  rw [hid_tile, hT_apply]
  unfold hidAt
  simp only [xRows_apply, cols_apply]

/-! ## One device's contribution -/

/-- One entry of one device's contribution. -/
def contrib (H : Vec Ideal S1536x3072 .bf16) (D : Vec Ideal S3072x1536 .f32) (a c : Fin 1536) : EReal :=
  ∑ k : Fin 3072, H (ix2 a k) * D (ix2 k c)

theorem mm_apply (w : Vec Ideal S256x1536 .f32) (h : Vec Ideal S192x256 .bf16) (r : Fin 192) (c : Fin 1536) :
    mm w h (ix2 r c) = ∑ j : Fin 256, h (ix2 r j) * w (ix2 j c) := by
  refine (Ideal.matmul_plain_apply (M := 192) (K := 256) (N := 1536) none h w _ r c).trans ?_
  exact (congrArg (fun z : EReal => z + _) Ideal.ofBits_zero_f32).trans (zero_add _)
theorem mm5_apply (w : Vec Ideal S512x1536 .f32) (h : Vec Ideal S192x512 .bf16) (r : Fin 192) (c : Fin 1536) :
    mm5 w h (ix2 r c) = ∑ j : Fin 512, h (ix2 r j) * w (ix2 j c) := by
  refine (Ideal.matmul_plain_apply (M := 192) (K := 512) (N := 1536) none h w _ r c).trans ?_
  exact (congrArg (fun z : EReal => z + _) Ideal.ofBits_zero_f32).trans (zero_add _)

theorem downRows_apply (X : Vec Ideal S3072x1536 .f32) (t : Fin 12) (j : Fin 256) (c : Fin 1536) :
    downRows X t (ix2 j c) = X (ix2 ⟨256 * t.val + j.val, by omega⟩ c) := by
  unfold downRows
  congr 1
  funext i; fin_cases i
  · exact Fin.ext (ValueKit.rect_emb_unit_val _ _ _ _ _)
  · exact Fin.ext ((ValueKit.rect_emb_unit_val _ _ _ _ _).trans (Nat.zero_add _))
theorem downRows5_apply (X : Vec Ideal S3072x1536 .f32) (t : Fin 6) (j : Fin 512) (c : Fin 1536) :
    downRows5 X t (ix2 j c) = X (ix2 ⟨512 * t.val + j.val, by omega⟩ c) := by
  unfold downRows5
  congr 1
  funext i; fin_cases i
  · exact Fin.ext (ValueKit.rect_emb_unit_val _ _ _ _ _)
  · exact Fin.ext ((ValueKit.rect_emb_unit_val _ _ _ _ _).trans (Nat.zero_add _))

theorem addTo_apply (o v : Vec Ideal S192x1536 .f32) (i : S192x1536.Idx) : addTo o v i = ((o i + v i : EReal)) := by
  unfold addTo; rw [shapeCast_self]; rfl

/-- Steps that each add a term leave the sum of the terms. -/
theorem fold_sum {n : Nat} (f : Fin n → Vec Ideal S192x1536 .f32 → Vec Ideal S192x1536 .f32) (T : Fin n → EReal) (i : S192x1536.Idx)
    (h0 : ∀ t v, t.val = 0 → f t v i = T t) (h1 : ∀ t v, t.val ≠ 0 → f t v i = ((v i + T t : EReal))) (hn : 0 < n) (v : Vec Ideal S192x1536 .f32) :
    fold f v n i = ∑ t, T t := by
  have key : ∀ k, k < n → fold f v (k + 1) i = ∑ s ∈ Finset.univ.filter (fun s : Fin n => s.val < k + 1), T s := by
    intro k
    induction k with
    | zero =>
      intro h
      rw [show fold f v (0 + 1) = f ⟨0, h⟩ v from fold_succ f v ⟨0, h⟩, h0 _ _ rfl, sum_tiles_succ T ⟨0, h⟩]
      simp
    | succ k ih =>
      intro h
      rw [show fold f v (k + 1 + 1) = f ⟨k + 1, h⟩ (fold f v (k + 1)) from fold_succ f v ⟨k + 1, h⟩, h1 _ _ (Nat.succ_ne_zero k), ih (by omega),
        sum_tiles_succ T ⟨k + 1, h⟩]
  obtain ⟨k, rfl⟩ : ∃ k, n = k + 1 := ⟨n - 1, by omega⟩
  rw [key k (by omega), sum_tiles_all]

theorem sum0_apply (H : Vec Ideal S1536x3072 .bf16) (D : Vec Ideal S3072x1536 .f32) (b : Fin 8) (r : Fin 192) (c : Fin 1536) :
    sum0 H D b (ix2 r c) = contrib H D ⟨192 * b.val + r.val, by omega⟩ c := by
  have ht : ∀ t, mm (downRows D t) (hRows H b t) (ix2 r c)
      = ∑ j : Fin 256, H (ix2 ⟨192 * b.val + r.val, by omega⟩ ⟨256 * t.val + j.val, by omega⟩) * D (ix2 ⟨256 * t.val + j.val, by omega⟩ c) := fun t => by
    rw [mm_apply]
    exact Finset.sum_congr rfl fun j _ => congrArg _ (downRows_apply D t j c)
  unfold contrib
  rw [tile_sum (a := 12) (n := 256) rfl]
  unfold sum0
  refine fold_sum _ _ _ (fun t v h => ?_) (fun t v h => ?_) (by decide) _
  · unfold step0; rw [if_pos h]; exact ht t
  · unfold step0; rw [if_neg h, addTo_apply, ht]

theorem sum1_apply (H : Vec Ideal S1536x3072 .bf16) (D : Vec Ideal S3072x1536 .f32) (b : Fin 8) (r : Fin 192) (c : Fin 1536) :
    sum1 H D b (ix2 r c) = contrib H D ⟨192 * b.val + r.val, by omega⟩ c := by
  have ht : ∀ t, mm5 (downRows5 D t) (hRows5 H b t) (ix2 r c)
      = ∑ j : Fin 512, H (ix2 ⟨192 * b.val + r.val, by omega⟩ ⟨512 * t.val + j.val, by omega⟩) * D (ix2 ⟨512 * t.val + j.val, by omega⟩ c) := fun t => by
    rw [mm5_apply]
    exact Finset.sum_congr rfl fun j _ => congrArg _ (downRows5_apply D t j c)
  unfold contrib
  rw [tile_sum (a := 6) (n := 512) rfl]
  unfold sum1
  refine fold_sum _ _ _ (fun t v h => ?_) (fun t v h => ?_) (by decide) _
  · unfold step1; rw [if_pos h]; exact ht t
  · unfold step1; rw [if_neg h, addTo_apply, ht]

/-! ## The ring -/

variable (m : (ℓ : Loc nD τ sig) → Buf (Elt Ideal) ℓ)

/-- Device `d`'s contribution to row `r` of block `b`. -/
def part (d : Dev nD) (b : Fin 8) (r : Fin 192) (c : Fin 1536) : EReal :=
  contrib (hv m d) (dv m d) ⟨192 * b.val + r.val, by omega⟩ c

theorem partv_apply (d : Dev nD) (g : Fin 2) (j : Fin 4) (r : Fin 192) (c : Fin 1536) :
    partv m d g j (ix2 r c) = part m d (blk d g j) r c := by
  unfold partv part
  split
  · exact sum0_apply _ _ _ _ _
  · exact sum1_apply _ _ _ _ _

theorem addIn_nar_apply (o v : Vec Ideal S192x1536 .f32) (i : S192x1536.Idx) : addIn o (nar v) i = ((o i + v i : EReal)) := by
  unfold addIn nar
  rw [shapeCast_self]
  show (o i + k0_pay70 v i : EReal) = _
  unfold k0_pay70
  rw [shapeCast_self, shapeCast_self]
  rfl
theorem wid_nar (v : Vec Ideal S192x1536 .f32) : wid (nar v) = v := by
  funext i
  show k0_pay70 v i = v i
  unfold k0_pay70
  rw [shapeCast_self, shapeCast_self]
  rfl

/-- The block worked on at a step is the one the neighbour worked on at the step before. -/
theorem blk_from (d : Dev nD) (g : Fin 2) (j : Fin 3) : blk (from' d g) g j.castSucc = blk d g j.succ := by
  revert d g j; decide +kernel

/-- Going back from a device three times passes through all the devices. -/
theorem from_perm (d : Dev nD) (g : Fin 2) :
    ∃ σ : Equiv.Perm (Dev nD), σ 0 = d ∧ σ 1 = from' d g ∧ σ 2 = from' (from' d g) g ∧ σ 3 = from' (from' (from' d g) g) g := by
  revert d g; decide +kernel

/-- After the last step the running sum is over all the devices. -/
theorem accv_apply (d : Dev nD) (g : Fin 2) (r : Fin 192) (c : Fin 1536) :
    accv m d g 3 (ix2 r c) = ∑ d' : Dev nD, part m d' (blk d g 3) r c := by
  have hs : ∀ (j : Fin 3) (e : Dev nD), accv m e g j.succ (ix2 r c)
      = ((part m e (blk e g j.succ) r c + accv m (from' e g) g j.castSucc (ix2 r c) : EReal)) := fun j e => by
    rw [accv_succ]; unfold sendv; rw [addIn_nar_apply, partv_apply]
  have h0 : ∀ e : Dev nD, accv m e g 0 (ix2 r c) = part m e (blk e g 0) r c := fun e => by rw [accv_zero, partv_apply]
  rw [show (3 : Fin 4) = (2 : Fin 3).succ from rfl, hs, show (2 : Fin 3).castSucc = (1 : Fin 3).succ from rfl, hs,
    show (1 : Fin 3).castSucc = (0 : Fin 3).succ from rfl, hs, show (0 : Fin 3).castSucc = 0 from rfl, h0,
    show (0 : Fin 4) = (0 : Fin 3).castSucc from rfl, blk_from, show (0 : Fin 3).succ = (1 : Fin 3).castSucc from rfl, blk_from,
    show (1 : Fin 3).succ = (2 : Fin 3).castSucc from rfl, blk_from]
  generalize blk d g (2 : Fin 3).succ = b
  obtain ⟨σ, e0, e1, e2, e3⟩ := from_perm d g
  rw [← Equiv.sum_comp σ, Fin.sum_univ_four, e0, e1, e2, e3, add_assoc, add_assoc]

theorem resv_apply (d : Dev nD) (g : Fin 2) (j : Fin 4) (r : Fin 192) (c : Fin 1536) :
    resv m d g j (ix2 r c) = ∑ d' : Dev nD, part m d' (blk d g j) r c := by
  have hop : ∀ (s : Nat) (e : Dev nD), ∃ e' : Dev nD, hopAt m g s e = nar (accv m e' g 3)
      ∧ e' = Nat.iterate (fun d => from' d g) s e := by
    intro s
    induction s with
    | zero => exact fun e => ⟨e, rfl, rfl⟩
    | succ s ih => exact fun e => ih (from' e g)
  unfold resv
  split
  · next h =>
    obtain ⟨e', he, hi⟩ := hop j.val (from' d g)
    have hb : blk e' g 3 = blk d g j := by
      subst hi; clear he hop
      revert h j d g; decide +kernel
    unfold hopv
    rw [he, wid_nar, accv_apply, hb]
  · next h =>
    obtain rfl : j = 3 := Fin.ext (by have := j.isLt; omega)
    exact accv_apply m d g r c

/-- Each entry of the result is the sum of the devices' contributions. -/
theorem outv_apply (d : Dev nD) (a c : Fin 1536) :
    outv m d (ix2 a c) = ∑ d' : Dev nD, contrib (hv m d') (dv m d') a c := by
  obtain ⟨b, r, rfl⟩ : ∃ (b : Fin 8) (r : Fin 192), a = ⟨192 * b.val + r.val, by omega⟩ :=
    ⟨⟨a.val / 192, by omega⟩, ⟨a.val % 192, by omega⟩, Fin.ext (by dsimp only; omega)⟩
  unfold outv
  rw [glue_rows, resv_apply, blk_of]
  rfl

/-- The narrowed input is the argument. -/
theorem xbv_apply (d : Dev nD) (i : S1536x1536.Idx) : xbv m d i = m ((d : Thread nD τ).loc main_arg0) i := by
  unfold xbv k0_pay1
  rw [shapeCast_self, shapeCast_self]
  show xv m d i = _
  unfold xv
  show m ((d : Thread nD τ).loc main_arg0) ((win0_0.blk (0 : Fin 1)).view.emb i) = _
  congr 1
  funext a
  fin_cases a
  · exact Fin.ext ((ValueKit.rect_emb_unit_val _ _ _ _ _).trans (Nat.zero_add _))
  · exact Fin.ext ((ValueKit.rect_emb_unit_val _ _ _ _ _).trans (Nat.zero_add _))

end Cert.KernelIdeal.Ring
end
-- ==== Proof.Math.Agree.lean ====
/-
The reference's value, entry by entry, and its agreement with what the ring leaves when the devices hold
their blocks of the reference's weights.
-/
module

public import proofs.«01_k».proof.Proof.KernelIdeal.Value
public import proofs.«01_k».proof.Proof.Gen.ReferenceIdeal
public import Idealize.ShloMosaic.Lib.StackMember
public import Idealize.ShloMosaic.Lib.Layout

@[expose] public section

set_option maxRecDepth 16384

noncomputable section

namespace Cert.Math

open Idealize.ShloMosaic Cert.ReferenceIdeal Cert.ReferenceIdeal.Gen
open Idealize.ShloMosaic.TcCoe

/-- The reference's result as its operations compose it. -/
def refv (X : Vec Ideal S1536x1536 .f32) (G U : Vec Ideal S1536x12288 .f32) (D : Vec Ideal S12288x1536 .f32) : Vec Ideal S1536x1536 .f32 :=
  Host.dotGeneral (F := Ideal) (φ₁ := .f32) (φ₂ := .f32) dot_S1536x12288_S12288x1536_S1536x1536_1_0_0_1_n_n none
    (mulf (Host.dotGeneral (F := Ideal) (φ₁ := .f32) (φ₂ := .f32) dot_S1536x1536_S1536x12288_S1536x12288_1_0_0_1_n_n none X G)
      (Host.divf (Host.dotGeneral (F := Ideal) (φ₁ := .f32) (φ₂ := .f32) dot_S1536x1536_S1536x12288_S1536x12288_1_0_0_1_n_n none X U)
        (addf (broadcastInDim S1536x12288 ![] bcast_S_S1536x12288 (constant S_ .f32 0x3F800000#32))
          (Host.exp (Host.negf (Host.dotGeneral (F := Ideal) (φ₁ := .f32) (φ₂ := .f32) dot_S1536x1536_S1536x12288_S1536x12288_1_0_0_1_n_n none X U)))))) D

/-- One projection of the input. -/
def proj (X : Vec Ideal S1536x1536 .f32) (W : Vec Ideal S1536x12288 .f32) (a : Fin 1536) (k : Fin 12288) : EReal :=
  ∑ l : Fin 1536, X (ix2 a l) * W (ix2 l k)

theorem host_proj (X : Vec Ideal S1536x1536 .f32) (W : Vec Ideal S1536x12288 .f32) (a : Fin 1536) (k : Fin 12288) :
    Host.dotGeneral (F := Ideal) (φ₁ := .f32) (φ₂ := .f32) dot_S1536x1536_S1536x12288_S1536x12288_1_0_0_1_n_n none X W (ix2 a k) = proj X W a k :=
  StackMember.dotGeneral_plain_apply (m := 1536) (k := 1536) (n := 12288) (φ₁ := .f32) (φ₂ := .f32) none X W a k

theorem refv_apply (X : Vec Ideal S1536x1536 .f32) (G U : Vec Ideal S1536x12288 .f32) (D : Vec Ideal S12288x1536 .f32) (a c : Fin 1536) :
    refv X G U D (ix2 a c)
      = ∑ k : Fin 12288, (proj X G a k * (proj X U a k * Ideal.logistic (proj X U a k))) * D (ix2 k c) := by
  refine (StackMember.dotGeneral_plain_apply (m := 1536) (k := 12288) (n := 1536) (φ₁ := .f32) (φ₂ := .f32) none _ D a c).trans ?_
  refine Finset.sum_congr rfl fun k _ => congrArg (fun z : EReal => z * D (ix2 k c)) ?_
  rw [mul_logistic, ← host_proj X G a k, ← host_proj X U a k]
  show (_ * Ideal.div _ (Ideal.ofBits .f32 0x3F800000#32 + _) : EReal) = _
  rw [Ideal.ofBits_one_f32]
  rfl

section
open Cert.KernelIdeal.Ring
variable (m : (ℓ : Loc Cert.KernelIdeal.nD Cert.KernelIdeal.τ Cert.KernelIdeal.sig) → Buf (Elt Ideal) ℓ)

/-- The result of the ring is the reference's, where the devices hold their blocks of the weights. -/
theorem outv_eq_refv (X : Vec Ideal S1536x1536 .f32) (G U : Vec Ideal S1536x12288 .f32) (D : Vec Ideal S12288x1536 .f32)
    (hx : ∀ c : Dev Cert.KernelIdeal.nD, m ((c : Thread Cert.KernelIdeal.nD Cert.KernelIdeal.τ).loc Cert.KernelIdeal.main_arg0) = X)
    (hg : ∀ c, gv m c = Layout.block ⟨2, ![1536, 3072]⟩ ⟨2, ![1536, 12288]⟩ 1 4 c G)
    (hu : ∀ c, uv m c = Layout.block ⟨2, ![1536, 3072]⟩ ⟨2, ![1536, 12288]⟩ 1 4 c U)
    (hd : ∀ c, dv m c = Layout.block ⟨2, ![3072, 1536]⟩ ⟨2, ![12288, 1536]⟩ 0 4 c D) (d : Dev Cert.KernelIdeal.nD) :
    outv m d = refv X G U D := by
  have colAt : ∀ (W : Vec Ideal S1536x12288 .f32) (c : Fin 4) (l : Fin 1536) (k : Fin 3072),
      Layout.block ⟨2, ![1536, 3072]⟩ ⟨2, ![1536, 12288]⟩ 1 4 c W (by decide) (ix2 l k) = W (ix2 l ⟨3072 * c.val + k.val, by omega⟩) := fun W c l k => by
    rw [Layout.block_apply]
    refine congrArg W (funext fun a => ?_)
    fin_cases a
    · rfl
    · exact Fin.ext (congrArg (· + k.val) (Nat.mul_comm c.val 3072))
  have rowAt : ∀ (c : Fin 4) (k : Fin 3072) (l : Fin 1536),
      Layout.block ⟨2, ![3072, 1536]⟩ ⟨2, ![12288, 1536]⟩ 0 4 c D (by decide) (ix2 k l) = D (ix2 ⟨3072 * c.val + k.val, by omega⟩ l) := fun c k l => by
    rw [Layout.block_apply]
    refine congrArg D (funext fun a => ?_)
    fin_cases a
    · exact Fin.ext (congrArg (· + k.val) (Nat.mul_comm c.val 3072))
    · rfl
  have hxb : ∀ c i, xbv m c i = X i := fun c i => by rw [xbv_apply, hx]
  funext i
  idx_vars i
  rw [outv_apply, refv_apply, tile_sum (a := 4) (n := 3072) rfl]
  refine Finset.sum_congr rfl fun c _ => Finset.sum_congr rfl fun k _ => ?_
  unfold hv
  rw [hid_apply, hd, rowAt]
  unfold hidAt
  simp only [hxb, hg, hu, colAt]
  rfl

end

end Cert.Math
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Math.Agree
public import Idealize.ShloMosaic.Adequacy
public import Idealize.ShloMosaic.Init

@[expose] public section

noncomputable section

namespace Cert.Proof

open Idealize.ShloMosaic Idealize.SL.Sem

theorem frame_Kernel : @Cert.quiescent_Kernel Cert.Kernel.Gen.facts := fun m g _ =>
  (θ_run _ _ _).mono (fun _ h => ⟨fun c => (h.1 c).2, h.2⟩) (Cert.Kernel.Ring.run_value m g)

theorem frame_KernelIdeal : @Cert.quiescent_KernelIdeal Cert.KernelIdeal.Gen.facts := fun m g _ =>
  (θ_run _ _ _).mono (fun _ h => ⟨fun c => (h.1 c).2, h.2⟩) (Cert.KernelIdeal.Ring.run_value m g)

theorem frame_ReferenceIdeal : @Cert.quiescent_ReferenceIdeal Cert.ReferenceIdeal.Gen.facts := fun m g _ =>
  (θ_run _ _ _).mono (fun r h => ⟨fun c => (h c).2, sem_eq_zero_of_no_sems (by decide) r.2⟩) (Cert.ReferenceIdeal.Value.run m g)

theorem algebraic : @Cert.algebraic_KernelIdeal_ReferenceIdeal Cert.KernelIdeal.Gen.facts Cert.ReferenceIdeal.Gen.facts := fun m g m' g' _ hag =>
  ⟨_, (θ_run _ _ _).mono (fun _ h c => ⟨(h.1 c).1.trans (Cert.Math.outv_eq_refv m _ _ _ _ (fun c => (hag c).1) (fun c => (hag c).2.1)
      (fun c => (hag c).2.2.1) (fun c => (hag c).2.2.2) c), (h.1 c).2⟩) (Cert.KernelIdeal.Ring.run_value m g),
    (θ_run _ _ _).mono (fun _ h => h 0) (Cert.ReferenceIdeal.Value.run m' g')⟩

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
